-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x8 .bf16) (main_arg2 : IVec S512x1 32) (main_arg3 : FVec F S2x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routes_in_range_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .bf16) (main_arg1 : FVec F S256x8 .bf16) (main_arg2 : IVec S512x1 32) (main_arg3 : FVec F S8x256x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S512x512 : Shape := ⟨2, ![512, 512]⟩
abbrev S4x512x128 : Shape := ⟨3, ![4, 512, 128]⟩
abbrev S3x512x128 : Shape := ⟨3, ![3, 512, 128]⟩
abbrev S512x128 : Shape := ⟨2, ![512, 128]⟩
abbrev S3x2 : Shape := ⟨2, ![3, 2]⟩
abbrev S_ : Shape := ⟨0, ![]⟩
abbrev S1x256x128 : Shape := ⟨3, ![1, 256, 128]⟩
abbrev S256x128 : Shape := ⟨2, ![256, 128]⟩
abbrev S1x512x128 : Shape := ⟨3, ![1, 512, 128]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S512x512, .bf16⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .bf16⟩
  | .local _ .vmem, ⟨4, _⟩ => ⟨S4x512x128, .bf16⟩
  | .local _ .vmem, ⟨5, _⟩ => ⟨S3x512x128, .bf16⟩
  | .local _ .vmem, ⟨6, _⟩ => ⟨S512x128, .bf16⟩
  | .local _ .vmem, ⟨7, _⟩ => ⟨S3x512x128, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi c0_i32_78 v2
  let c4_i32_79 : BitVec 32 := 4#32
  let c0_i32_80 : BitVec 32 := 0#32
  let v118 : BitVec 1 := Scalar.cmpi .eq c4_i32_79 c0_i32_80
  let c1_i32_81 : BitVec 32 := 1#32
  let v119 : BitVec 32 := Scalar.select v118 c1_i32_81 c4_i32_79
  let v120 : BitVec 32 := Scalar.remsi v117 v119
  let c0_i32_83 : BitVec 32 := 0#32
  let v122 : BitVec 1 := Scalar.cmpi .slt v120 c0_i32_83
  let c0_i32_84 : BitVec 32 := 0#32
  let v123 : BitVec 1 := Scalar.cmpi .slt v119 c0_i32_84
  let v124 : BitVec 1 := Scalar.xori v122 v123
  let c0_i32_82 : BitVec 32 := 0#32
  let v121 : BitVec 1 := Scalar.cmpi .ne v120 c0_i32_82
  let v125 : BitVec 1 := Scalar.andi v124 v121
  let v126 : BitVec 32 := Scalar.addi v120 v119
  let v127 : BitVec 32 := Scalar.select v125 v126 v120
  let c0_i32_85 : BitVec 32 := 0#32
  let v128 : BitVec 1 := Scalar.cmpi .ne v127 c0_i32_85
  let v129 : BitVec 32 := Scalar.extui v128
  let c0_i32_86 : BitVec 32 := 0#32
  let v130 : BitVec 1 := Scalar.cmpi .ne v129 c0_i32_86
  v130

def k0_off1 (d0 : Dev nD) : Fin 2 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi c0_i32_78 v2
  let c4_i32_79 : BitVec 32 := 4#32
  let c0_i32_80 : BitVec 32 := 0#32
  let v118 : BitVec 1 := Scalar.cmpi .eq c4_i32_79 c0_i32_80
  let c1_i32_81 : BitVec 32 := 1#32
  let v119 : BitVec 32 := Scalar.select v118 c1_i32_81 c4_i32_79
  let v120 : BitVec 32 := Scalar.remsi v117 v119
  let c0_i32_83 : BitVec 32 := 0#32
  let v122 : BitVec 1 := Scalar.cmpi .slt v120 c0_i32_83
  let c0_i32_84 : BitVec 32 := 0#32
  let v123 : BitVec 1 := Scalar.cmpi .slt v119 c0_i32_84
  let v124 : BitVec 1 := Scalar.xori v122 v123
  let c0_i32_82 : BitVec 32 := 0#32
  let v121 : BitVec 1 := Scalar.cmpi .ne v120 c0_i32_82
  let v125 : BitVec 1 := Scalar.andi v124 v121
  let v126 : BitVec 32 := Scalar.addi v120 v119
  let v127 : BitVec 32 := Scalar.select v125 v126 v120
  let c1_i32_675 : BitVec 32 := 1#32
  let v716 : BitVec 32 := Scalar.subi v127 c1_i32_675
  let c0_i32_679 : BitVec 32 := 0#32
  ![v716.toNat, 0]
def k0_off2 (d0 : Dev nD) : Fin 3 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi c0_i32_78 v2
  let c4_i32_79 : BitVec 32 := 4#32
  let c0_i32_80 : BitVec 32 := 0#32
  let v118 : BitVec 1 := Scalar.cmpi .eq c4_i32_79 c0_i32_80
  let c1_i32_81 : BitVec 32 := 1#32
  let v119 : BitVec 32 := Scalar.select v118 c1_i32_81 c4_i32_79
  let v120 : BitVec 32 := Scalar.remsi v117 v119
  let c0_i32_83 : BitVec 32 := 0#32
  let v122 : BitVec 1 := Scalar.cmpi .slt v120 c0_i32_83
  let c0_i32_84 : BitVec 32 := 0#32
  let v123 : BitVec 1 := Scalar.cmpi .slt v119 c0_i32_84
  let v124 : BitVec 1 := Scalar.xori v122 v123
  let c0_i32_82 : BitVec 32 := 0#32
  let v121 : BitVec 1 := Scalar.cmpi .ne v120 c0_i32_82
  let v125 : BitVec 1 := Scalar.andi v124 v121
  let v126 : BitVec 32 := Scalar.addi v120 v119
  let v127 : BitVec 32 := Scalar.select v125 v126 v120
  let c1_i32_674 : BitVec 32 := 1#32
  let v715 : BitVec 32 := Scalar.subi v127 c1_i32_674
  let c0_i32_683 : BitVec 32 := 0#32
  let c0_i32_684 : BitVec 32 := 0#32
  ![v715.toNat, 0, 0]
def k0_dev4 : Nat :=
  let c0_i32_682 : BitVec 32 := 0#32
  let c0_i32_680 : BitVec 32 := 0#32
  let c1_i32_681 : BitVec 32 := 1#32
  let v718 : BitVec 32 := Scalar.muli c0_i32_680 c1_i32_681
  let v719 : BitVec 32 := Scalar.addi c0_i32_682 v718
  v719.toNat
def k0_off3 (d0 : Dev nD) : Fin 2 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi c0_i32_78 v2
  let c4_i32_79 : BitVec 32 := 4#32
  let c0_i32_80 : BitVec 32 := 0#32
  let v118 : BitVec 1 := Scalar.cmpi .eq c4_i32_79 c0_i32_80
  let c1_i32_81 : BitVec 32 := 1#32
  let v119 : BitVec 32 := Scalar.select v118 c1_i32_81 c4_i32_79
  let v120 : BitVec 32 := Scalar.remsi v117 v119
  let c0_i32_83 : BitVec 32 := 0#32
  let v122 : BitVec 1 := Scalar.cmpi .slt v120 c0_i32_83
  let c0_i32_84 : BitVec 32 := 0#32
  let v123 : BitVec 1 := Scalar.cmpi .slt v119 c0_i32_84
  let v124 : BitVec 1 := Scalar.xori v122 v123
  let c0_i32_82 : BitVec 32 := 0#32
  let v121 : BitVec 1 := Scalar.cmpi .ne v120 c0_i32_82
  let v125 : BitVec 1 := Scalar.andi v124 v121
  let v126 : BitVec 32 := Scalar.addi v120 v119
  let v127 : BitVec 32 := Scalar.select v125 v126 v120
  let c1_i32_688 : BitVec 32 := 1#32
  let v729 : BitVec 32 := Scalar.subi v127 c1_i32_688
  let c1_i32_692 : BitVec 32 := 1#32
  ![v729.toNat, 1]
def k0_off4 (d0 : Dev nD) : Fin 3 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.subi c0_i32_78 v2
  let c4_i32_79 : BitVec 32 := 4#32
  let c0_i32_80 : BitVec 32 := 0#32
  let v118 : BitVec 1 := Scalar.cmpi .eq c4_i32_79 c0_i32_80
  let c1_i32_81 : BitVec 32 := 1#32
  let v119 : BitVec 32 := Scalar.select v118 c1_i32_81 c4_i32_79
  let v120 : BitVec 32 := Scalar.remsi v117 v119
  let c0_i32_83 : BitVec 32 := 0#32
  let v122 : BitVec 1 := Scalar.cmpi .slt v120 c0_i32_83
  let c0_i32_84 : BitVec 32 := 0#32
  let v123 : BitVec 1 := Scalar.cmpi .slt v119 c0_i32_84
  let v124 : BitVec 1 := Scalar.xori v122 v123
  let c0_i32_82 : BitVec 32 := 0#32
  let v121 : BitVec 1 := Scalar.cmpi .ne v120 c0_i32_82
  let v125 : BitVec 1 := Scalar.andi v124 v121
  let v126 : BitVec 32 := Scalar.addi v120 v119
  let v127 : BitVec 32 := Scalar.select v125 v126 v120
  let c1_i32_687 : BitVec 32 := 1#32
  let v728 : BitVec 32 := Scalar.subi v127 c1_i32_687
  let c256_i32_696 : BitVec 32 := 256#32
  let c0_i32_697 : BitVec 32 := 0#32
  ![v728.toNat, 256, 0]
def k0_dev5 : Nat :=
  let c0_i32_695 : BitVec 32 := 0#32
  let c0_i32_693 : BitVec 32 := 0#32
  let c1_i32_694 : BitVec 32 := 1#32
  let v731 : BitVec 32 := Scalar.muli c0_i32_693 c1_i32_694
  let v732 : BitVec 32 := Scalar.addi c0_i32_695 v731
  v732.toNat
def k0_cond2 (d0 : Dev nD) : BitVec 1 :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi c1_i32_87 v2
  let c4_i32_88 : BitVec 32 := 4#32
  let c0_i32_89 : BitVec 32 := 0#32
  let v132 : BitVec 1 := Scalar.cmpi .eq c4_i32_88 c0_i32_89
  let c1_i32_90 : BitVec 32 := 1#32
  let v133 : BitVec 32 := Scalar.select v132 c1_i32_90 c4_i32_88
  let v134 : BitVec 32 := Scalar.remsi v131 v133
  let c0_i32_92 : BitVec 32 := 0#32
  let v136 : BitVec 1 := Scalar.cmpi .slt v134 c0_i32_92
  let c0_i32_93 : BitVec 32 := 0#32
  let v137 : BitVec 1 := Scalar.cmpi .slt v133 c0_i32_93
  let v138 : BitVec 1 := Scalar.xori v136 v137
  let c0_i32_91 : BitVec 32 := 0#32
  let v135 : BitVec 1 := Scalar.cmpi .ne v134 c0_i32_91
  let v139 : BitVec 1 := Scalar.andi v138 v135
  let v140 : BitVec 32 := Scalar.addi v134 v133
  let v141 : BitVec 32 := Scalar.select v139 v140 v134
  let c0_i32_94 : BitVec 32 := 0#32
  let v142 : BitVec 1 := Scalar.cmpi .ne v141 c0_i32_94
  let v143 : BitVec 32 := Scalar.extui v142
  let c0_i32_95 : BitVec 32 := 0#32
  let v144 : BitVec 1 := Scalar.cmpi .ne v143 c0_i32_95
  v144

def k0_off5 (d0 : Dev nD) : Fin 2 → Nat :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi c1_i32_87 v2
  let c4_i32_88 : BitVec 32 := 4#32
  let c0_i32_89 : BitVec 32 := 0#32
  let v132 : BitVec 1 := Scalar.cmpi .eq c4_i32_88 c0_i32_89
  let c1_i32_90 : BitVec 32 := 1#32
  let v133 : BitVec 32 := Scalar.select v132 c1_i32_90 c4_i32_88
  let v134 : BitVec 32 := Scalar.remsi v131 v133
  let c0_i32_92 : BitVec 32 := 0#32
  let v136 : BitVec 1 := Scalar.cmpi .slt v134 c0_i32_92
  let c0_i32_93 : BitVec 32 := 0#32
  let v137 : BitVec 1 := Scalar.cmpi .slt v133 c0_i32_93
  let v138 : BitVec 1 := Scalar.xori v136 v137
  let c0_i32_91 : BitVec 32 := 0#32
  let v135 : BitVec 1 := Scalar.cmpi .ne v134 c0_i32_91
  let v139 : BitVec 1 := Scalar.andi v138 v135
  let v140 : BitVec 32 := Scalar.addi v134 v133
  let v141 : BitVec 32 := Scalar.select v139 v140 v134
  let c1_i32_675 : BitVec 32 := 1#32
  let v716 : BitVec 32 := Scalar.subi v141 c1_i32_675
  let c0_i32_679 : BitVec 32 := 0#32
  ![v716.toNat, 0]
def k0_off6 (d0 : Dev nD) : Fin 3 → Nat :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi c1_i32_87 v2
  let c4_i32_88 : BitVec 32 := 4#32
  let c0_i32_89 : BitVec 32 := 0#32
  let v132 : BitVec 1 := Scalar.cmpi .eq c4_i32_88 c0_i32_89
  let c1_i32_90 : BitVec 32 := 1#32
  let v133 : BitVec 32 := Scalar.select v132 c1_i32_90 c4_i32_88
  let v134 : BitVec 32 := Scalar.remsi v131 v133
  let c0_i32_92 : BitVec 32 := 0#32
  let v136 : BitVec 1 := Scalar.cmpi .slt v134 c0_i32_92
  let c0_i32_93 : BitVec 32 := 0#32
  let v137 : BitVec 1 := Scalar.cmpi .slt v133 c0_i32_93
  let v138 : BitVec 1 := Scalar.xori v136 v137
  let c0_i32_91 : BitVec 32 := 0#32
  let v135 : BitVec 1 := Scalar.cmpi .ne v134 c0_i32_91
  let v139 : BitVec 1 := Scalar.andi v138 v135
  let v140 : BitVec 32 := Scalar.addi v134 v133
  let v141 : BitVec 32 := Scalar.select v139 v140 v134
  let c1_i32_674 : BitVec 32 := 1#32
  let v715 : BitVec 32 := Scalar.subi v141 c1_i32_674
  let c0_i32_683 : BitVec 32 := 0#32
  let c0_i32_684 : BitVec 32 := 0#32
  ![v715.toNat, 0, 0]
def k0_dev6 : Nat :=
  let c0_i32_682 : BitVec 32 := 0#32
  let c1_i32_680 : BitVec 32 := 1#32
  let c1_i32_681 : BitVec 32 := 1#32
  let v718 : BitVec 32 := Scalar.muli c1_i32_680 c1_i32_681
  let v719 : BitVec 32 := Scalar.addi c0_i32_682 v718
  v719.toNat
def k0_off7 (d0 : Dev nD) : Fin 2 → Nat :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi c1_i32_87 v2
  let c4_i32_88 : BitVec 32 := 4#32
  let c0_i32_89 : BitVec 32 := 0#32
  let v132 : BitVec 1 := Scalar.cmpi .eq c4_i32_88 c0_i32_89
  let c1_i32_90 : BitVec 32 := 1#32
  let v133 : BitVec 32 := Scalar.select v132 c1_i32_90 c4_i32_88
  let v134 : BitVec 32 := Scalar.remsi v131 v133
  let c0_i32_92 : BitVec 32 := 0#32
  let v136 : BitVec 1 := Scalar.cmpi .slt v134 c0_i32_92
  let c0_i32_93 : BitVec 32 := 0#32
  let v137 : BitVec 1 := Scalar.cmpi .slt v133 c0_i32_93
  let v138 : BitVec 1 := Scalar.xori v136 v137
  let c0_i32_91 : BitVec 32 := 0#32
  let v135 : BitVec 1 := Scalar.cmpi .ne v134 c0_i32_91
  let v139 : BitVec 1 := Scalar.andi v138 v135
  let v140 : BitVec 32 := Scalar.addi v134 v133
  let v141 : BitVec 32 := Scalar.select v139 v140 v134
  let c1_i32_688 : BitVec 32 := 1#32
  let v729 : BitVec 32 := Scalar.subi v141 c1_i32_688
  let c1_i32_692 : BitVec 32 := 1#32
  ![v729.toNat, 1]
def k0_off8 (d0 : Dev nD) : Fin 3 → Nat :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi c1_i32_87 v2
  let c4_i32_88 : BitVec 32 := 4#32
  let c0_i32_89 : BitVec 32 := 0#32
  let v132 : BitVec 1 := Scalar.cmpi .eq c4_i32_88 c0_i32_89
  let c1_i32_90 : BitVec 32 := 1#32
  let v133 : BitVec 32 := Scalar.select v132 c1_i32_90 c4_i32_88
  let v134 : BitVec 32 := Scalar.remsi v131 v133
  let c0_i32_92 : BitVec 32 := 0#32
  let v136 : BitVec 1 := Scalar.cmpi .slt v134 c0_i32_92
  let c0_i32_93 : BitVec 32 := 0#32
  let v137 : BitVec 1 := Scalar.cmpi .slt v133 c0_i32_93
  let v138 : BitVec 1 := Scalar.xori v136 v137
  let c0_i32_91 : BitVec 32 := 0#32
  let v135 : BitVec 1 := Scalar.cmpi .ne v134 c0_i32_91
  let v139 : BitVec 1 := Scalar.andi v138 v135
  let v140 : BitVec 32 := Scalar.addi v134 v133
  let v141 : BitVec 32 := Scalar.select v139 v140 v134
  let c1_i32_687 : BitVec 32 := 1#32
  let v728 : BitVec 32 := Scalar.subi v141 c1_i32_687
  let c256_i32_696 : BitVec 32 := 256#32
  let c0_i32_697 : BitVec 32 := 0#32
  ![v728.toNat, 256, 0]
def k0_dev7 : Nat :=
  let c0_i32_695 : BitVec 32 := 0#32
  let c1_i32_693 : BitVec 32 := 1#32
  let c1_i32_694 : BitVec 32 := 1#32
  let v731 : BitVec 32 := Scalar.muli c1_i32_693 c1_i32_694
  let v732 : BitVec 32 := Scalar.addi c0_i32_695 v731
  v732.toNat
def k0_cond3 (d0 : Dev nD) : BitVec 1 :=
  let c2_i32_96 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi c2_i32_96 v2
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c0_i32_103 : BitVec 32 := 0#32
  let v156 : BitVec 1 := Scalar.cmpi .ne v155 c0_i32_103
  let v157 : BitVec 32 := Scalar.extui v156
  let c0_i32_104 : BitVec 32 := 0#32
  let v158 : BitVec 1 := Scalar.cmpi .ne v157 c0_i32_104
  v158

def k0_off9 (d0 : Dev nD) : Fin 2 → Nat :=
  let c2_i32_96 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi c2_i32_96 v2
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c1_i32_675 : BitVec 32 := 1#32
  let v716 : BitVec 32 := Scalar.subi v155 c1_i32_675
  let c0_i32_679 : BitVec 32 := 0#32
  ![v716.toNat, 0]
def k0_off10 (d0 : Dev nD) : Fin 3 → Nat :=
  let c2_i32_96 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi c2_i32_96 v2
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c1_i32_674 : BitVec 32 := 1#32
  let v715 : BitVec 32 := Scalar.subi v155 c1_i32_674
  let c0_i32_683 : BitVec 32 := 0#32
  let c0_i32_684 : BitVec 32 := 0#32
  ![v715.toNat, 0, 0]
def k0_dev8 : Nat :=
  let c0_i32_682 : BitVec 32 := 0#32
  let c2_i32_680 : BitVec 32 := 2#32
  let c1_i32_681 : BitVec 32 := 1#32
  let v718 : BitVec 32 := Scalar.muli c2_i32_680 c1_i32_681
  let v719 : BitVec 32 := Scalar.addi c0_i32_682 v718
  v719.toNat
def k0_off11 (d0 : Dev nD) : Fin 2 → Nat :=
  let c2_i32_96 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi c2_i32_96 v2
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c1_i32_688 : BitVec 32 := 1#32
  let v729 : BitVec 32 := Scalar.subi v155 c1_i32_688
  let c1_i32_692 : BitVec 32 := 1#32
  ![v729.toNat, 1]
def k0_off12 (d0 : Dev nD) : Fin 3 → Nat :=
  let c2_i32_96 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v145 : BitVec 32 := Scalar.subi c2_i32_96 v2
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c1_i32_687 : BitVec 32 := 1#32
  let v728 : BitVec 32 := Scalar.subi v155 c1_i32_687
  let c256_i32_696 : BitVec 32 := 256#32
  let c0_i32_697 : BitVec 32 := 0#32
  ![v728.toNat, 256, 0]
def k0_dev9 : Nat :=
  let c0_i32_695 : BitVec 32 := 0#32
  let c2_i32_693 : BitVec 32 := 2#32
  let c1_i32_694 : BitVec 32 := 1#32
  let v731 : BitVec 32 := Scalar.muli c2_i32_693 c1_i32_694
  let v732 : BitVec 32 := Scalar.addi c0_i32_695 v731
  v732.toNat
def k0_cond4 (d0 : Dev nD) : BitVec 1 :=
  let c3_i32_105 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.subi c3_i32_105 v2
  let c4_i32_106 : BitVec 32 := 4#32
  let c0_i32_107 : BitVec 32 := 0#32
  let v160 : BitVec 1 := Scalar.cmpi .eq c4_i32_106 c0_i32_107
  let c1_i32_108 : BitVec 32 := 1#32
  let v161 : BitVec 32 := Scalar.select v160 c1_i32_108 c4_i32_106
  let v162 : BitVec 32 := Scalar.remsi v159 v161
  let c0_i32_110 : BitVec 32 := 0#32
  let v164 : BitVec 1 := Scalar.cmpi .slt v162 c0_i32_110
  let c0_i32_111 : BitVec 32 := 0#32
  let v165 : BitVec 1 := Scalar.cmpi .slt v161 c0_i32_111
  let v166 : BitVec 1 := Scalar.xori v164 v165
  let c0_i32_109 : BitVec 32 := 0#32
  let v163 : BitVec 1 := Scalar.cmpi .ne v162 c0_i32_109
  let v167 : BitVec 1 := Scalar.andi v166 v163
  let v168 : BitVec 32 := Scalar.addi v162 v161
  let v169 : BitVec 32 := Scalar.select v167 v168 v162
  let c0_i32_112 : BitVec 32 := 0#32
  let v170 : BitVec 1 := Scalar.cmpi .ne v169 c0_i32_112
  let v171 : BitVec 32 := Scalar.extui v170
  let c0_i32_113 : BitVec 32 := 0#32
  let v172 : BitVec 1 := Scalar.cmpi .ne v171 c0_i32_113
  v172

def k0_off13 (d0 : Dev nD) : Fin 2 → Nat :=
  let c3_i32_105 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.subi c3_i32_105 v2
  let c4_i32_106 : BitVec 32 := 4#32
  let c0_i32_107 : BitVec 32 := 0#32
  let v160 : BitVec 1 := Scalar.cmpi .eq c4_i32_106 c0_i32_107
  let c1_i32_108 : BitVec 32 := 1#32
  let v161 : BitVec 32 := Scalar.select v160 c1_i32_108 c4_i32_106
  let v162 : BitVec 32 := Scalar.remsi v159 v161
  let c0_i32_110 : BitVec 32 := 0#32
  let v164 : BitVec 1 := Scalar.cmpi .slt v162 c0_i32_110
  let c0_i32_111 : BitVec 32 := 0#32
  let v165 : BitVec 1 := Scalar.cmpi .slt v161 c0_i32_111
  let v166 : BitVec 1 := Scalar.xori v164 v165
  let c0_i32_109 : BitVec 32 := 0#32
  let v163 : BitVec 1 := Scalar.cmpi .ne v162 c0_i32_109
  let v167 : BitVec 1 := Scalar.andi v166 v163
  let v168 : BitVec 32 := Scalar.addi v162 v161
  let v169 : BitVec 32 := Scalar.select v167 v168 v162
  let c1_i32_675 : BitVec 32 := 1#32
  let v716 : BitVec 32 := Scalar.subi v169 c1_i32_675
  let c0_i32_679 : BitVec 32 := 0#32
  ![v716.toNat, 0]
def k0_off14 (d0 : Dev nD) : Fin 3 → Nat :=
  let c3_i32_105 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.subi c3_i32_105 v2
  let c4_i32_106 : BitVec 32 := 4#32
  let c0_i32_107 : BitVec 32 := 0#32
  let v160 : BitVec 1 := Scalar.cmpi .eq c4_i32_106 c0_i32_107
  let c1_i32_108 : BitVec 32 := 1#32
  let v161 : BitVec 32 := Scalar.select v160 c1_i32_108 c4_i32_106
  let v162 : BitVec 32 := Scalar.remsi v159 v161
  let c0_i32_110 : BitVec 32 := 0#32
  let v164 : BitVec 1 := Scalar.cmpi .slt v162 c0_i32_110
  let c0_i32_111 : BitVec 32 := 0#32
  let v165 : BitVec 1 := Scalar.cmpi .slt v161 c0_i32_111
  let v166 : BitVec 1 := Scalar.xori v164 v165
  let c0_i32_109 : BitVec 32 := 0#32
  let v163 : BitVec 1 := Scalar.cmpi .ne v162 c0_i32_109
  let v167 : BitVec 1 := Scalar.andi v166 v163
  let v168 : BitVec 32 := Scalar.addi v162 v161
  let v169 : BitVec 32 := Scalar.select v167 v168 v162
  let c1_i32_674 : BitVec 32 := 1#32
  let v715 : BitVec 32 := Scalar.subi v169 c1_i32_674
  let c0_i32_683 : BitVec 32 := 0#32
  let c0_i32_684 : BitVec 32 := 0#32
  ![v715.toNat, 0, 0]
def k0_dev10 : Nat :=
  let c0_i32_682 : BitVec 32 := 0#32
  let c3_i32_680 : BitVec 32 := 3#32
  let c1_i32_681 : BitVec 32 := 1#32
  let v718 : BitVec 32 := Scalar.muli c3_i32_680 c1_i32_681
  let v719 : BitVec 32 := Scalar.addi c0_i32_682 v718
  v719.toNat
def k0_off15 (d0 : Dev nD) : Fin 2 → Nat :=
  let c3_i32_105 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.subi c3_i32_105 v2
  let c4_i32_106 : BitVec 32 := 4#32
  let c0_i32_107 : BitVec 32 := 0#32
  let v160 : BitVec 1 := Scalar.cmpi .eq c4_i32_106 c0_i32_107
  let c1_i32_108 : BitVec 32 := 1#32
  let v161 : BitVec 32 := Scalar.select v160 c1_i32_108 c4_i32_106
  let v162 : BitVec 32 := Scalar.remsi v159 v161
  let c0_i32_110 : BitVec 32 := 0#32
  let v164 : BitVec 1 := Scalar.cmpi .slt v162 c0_i32_110
  let c0_i32_111 : BitVec 32 := 0#32
  let v165 : BitVec 1 := Scalar.cmpi .slt v161 c0_i32_111
  let v166 : BitVec 1 := Scalar.xori v164 v165
  let c0_i32_109 : BitVec 32 := 0#32
  let v163 : BitVec 1 := Scalar.cmpi .ne v162 c0_i32_109
  let v167 : BitVec 1 := Scalar.andi v166 v163
  let v168 : BitVec 32 := Scalar.addi v162 v161
  let v169 : BitVec 32 := Scalar.select v167 v168 v162
  let c1_i32_688 : BitVec 32 := 1#32
  let v729 : BitVec 32 := Scalar.subi v169 c1_i32_688
  let c1_i32_692 : BitVec 32 := 1#32
  ![v729.toNat, 1]
def k0_off16 (d0 : Dev nD) : Fin 3 → Nat :=
  let c3_i32_105 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.subi c3_i32_105 v2
  let c4_i32_106 : BitVec 32 := 4#32
  let c0_i32_107 : BitVec 32 := 0#32
  let v160 : BitVec 1 := Scalar.cmpi .eq c4_i32_106 c0_i32_107
  let c1_i32_108 : BitVec 32 := 1#32
  let v161 : BitVec 32 := Scalar.select v160 c1_i32_108 c4_i32_106
  let v162 : BitVec 32 := Scalar.remsi v159 v161
  let c0_i32_110 : BitVec 32 := 0#32
  let v164 : BitVec 1 := Scalar.cmpi .slt v162 c0_i32_110
  let c0_i32_111 : BitVec 32 := 0#32
  let v165 : BitVec 1 := Scalar.cmpi .slt v161 c0_i32_111
  let v166 : BitVec 1 := Scalar.xori v164 v165
  let c0_i32_109 : BitVec 32 := 0#32
  let v163 : BitVec 1 := Scalar.cmpi .ne v162 c0_i32_109
  let v167 : BitVec 1 := Scalar.andi v166 v163
  let v168 : BitVec 32 := Scalar.addi v162 v161
  let v169 : BitVec 32 := Scalar.select v167 v168 v162
  let c1_i32_687 : BitVec 32 := 1#32
  let v728 : BitVec 32 := Scalar.subi v169 c1_i32_687
  let c256_i32_696 : BitVec 32 := 256#32
  let c0_i32_697 : BitVec 32 := 0#32
  ![v728.toNat, 256, 0]
def k0_dev11 : Nat :=
  let c0_i32_695 : BitVec 32 := 0#32
  let c3_i32_693 : BitVec 32 := 3#32
  let c1_i32_694 : BitVec 32 := 1#32
  let v731 : BitVec 32 := Scalar.muli c3_i32_693 c1_i32_694
  let v732 : BitVec 32 := Scalar.addi c0_i32_695 v731
  v732.toNat
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v173 : Index := Scalar.indexCast v2
  let c0_114 : Index := 0#32
  let c0_115 : Index := 0#32
  ![v173.toNat, 0, 0]
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v251 : BitVec 32 := Scalar.addi v2 c1_i32_184
  let c4_i32_185 : BitVec 32 := 4#32
  let c0_i32_186 : BitVec 32 := 0#32
  let v252 : BitVec 1 := Scalar.cmpi .eq c4_i32_185 c0_i32_186
  let c1_i32_187 : BitVec 32 := 1#32
  let v253 : BitVec 32 := Scalar.select v252 c1_i32_187 c4_i32_185
  let v254 : BitVec 32 := Scalar.remsi v251 v253
  let c0_i32_189 : BitVec 32 := 0#32
  let v256 : BitVec 1 := Scalar.cmpi .slt v254 c0_i32_189
  let c0_i32_190 : BitVec 32 := 0#32
  let v257 : BitVec 1 := Scalar.cmpi .slt v253 c0_i32_190
  let v258 : BitVec 1 := Scalar.xori v256 v257
  let c0_i32_188 : BitVec 32 := 0#32
  let v255 : BitVec 1 := Scalar.cmpi .ne v254 c0_i32_188
  let v259 : BitVec 1 := Scalar.andi v258 v255
  let v260 : BitVec 32 := Scalar.addi v254 v253
  let v261 : BitVec 32 := Scalar.select v259 v260 v254
  let c1_i32_196 : BitVec 32 := 1#32
  let v262 : BitVec 32 := Scalar.muli v261 c1_i32_196
  let v263 : BitVec 32 := Scalar.addi c0_i32_197 v262
  v263.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_202 : BitVec 32 := 2#32
  let v271 : BitVec 32 := Scalar.addi v2 c2_i32_202
  let c4_i32_203 : BitVec 32 := 4#32
  let c0_i32_204 : BitVec 32 := 0#32
  let v272 : BitVec 1 := Scalar.cmpi .eq c4_i32_203 c0_i32_204
  let c1_i32_205 : BitVec 32 := 1#32
  let v273 : BitVec 32 := Scalar.select v272 c1_i32_205 c4_i32_203
  let v274 : BitVec 32 := Scalar.remsi v271 v273
  let c0_i32_207 : BitVec 32 := 0#32
  let v276 : BitVec 1 := Scalar.cmpi .slt v274 c0_i32_207
  let c0_i32_208 : BitVec 32 := 0#32
  let v277 : BitVec 1 := Scalar.cmpi .slt v273 c0_i32_208
  let v278 : BitVec 1 := Scalar.xori v276 v277
  let c0_i32_206 : BitVec 32 := 0#32
  let v275 : BitVec 1 := Scalar.cmpi .ne v274 c0_i32_206
  let v279 : BitVec 1 := Scalar.andi v278 v275
  let v280 : BitVec 32 := Scalar.addi v274 v273
  let v281 : BitVec 32 := Scalar.select v279 v280 v274
  let c1_i32_214 : BitVec 32 := 1#32
  let v282 : BitVec 32 := Scalar.muli v281 c1_i32_214
  let v283 : BitVec 32 := Scalar.addi c0_i32_215 v282
  v283.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_220 : BitVec 32 := 3#32
  let v291 : BitVec 32 := Scalar.addi v2 c3_i32_220
  let c4_i32_221 : BitVec 32 := 4#32
  let c0_i32_222 : BitVec 32 := 0#32
  let v292 : BitVec 1 := Scalar.cmpi .eq c4_i32_221 c0_i32_222
  let c1_i32_223 : BitVec 32 := 1#32
  let v293 : BitVec 32 := Scalar.select v292 c1_i32_223 c4_i32_221
  let v294 : BitVec 32 := Scalar.remsi v291 v293
  let c0_i32_225 : BitVec 32 := 0#32
  let v296 : BitVec 1 := Scalar.cmpi .slt v294 c0_i32_225
  let c0_i32_226 : BitVec 32 := 0#32
  let v297 : BitVec 1 := Scalar.cmpi .slt v293 c0_i32_226
  let v298 : BitVec 1 := Scalar.xori v296 v297
  let c0_i32_224 : BitVec 32 := 0#32
  let v295 : BitVec 1 := Scalar.cmpi .ne v294 c0_i32_224
  let v299 : BitVec 1 := Scalar.andi v298 v295
  let v300 : BitVec 32 := Scalar.addi v294 v293
  let v301 : BitVec 32 := Scalar.select v299 v300 v294
  let c1_i32_232 : BitVec 32 := 1#32
  let v302 : BitVec 32 := Scalar.muli v301 c1_i32_232
  let v303 : BitVec 32 := Scalar.addi c0_i32_233 v302
  v303.toNat
def k0_off18 (d0 : Dev nD) : Fin 2 → Nat :=
  let c0_238 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v311 : BitVec 32 := Scalar.muli v2 c128_i32
  let v312 : Index := Scalar.indexCast v311
  ![0, v312.toNat]
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v388 : BitVec 32 := Scalar.addi v2 c1_i32_306
  let c4_i32_307 : BitVec 32 := 4#32
  let c0_i32_308 : BitVec 32 := 0#32
  let v389 : BitVec 1 := Scalar.cmpi .eq c4_i32_307 c0_i32_308
  let c1_i32_309 : BitVec 32 := 1#32
  let v390 : BitVec 32 := Scalar.select v389 c1_i32_309 c4_i32_307
  let v391 : BitVec 32 := Scalar.remsi v388 v390
  let c0_i32_311 : BitVec 32 := 0#32
  let v393 : BitVec 1 := Scalar.cmpi .slt v391 c0_i32_311
  let c0_i32_312 : BitVec 32 := 0#32
  let v394 : BitVec 1 := Scalar.cmpi .slt v390 c0_i32_312
  let v395 : BitVec 1 := Scalar.xori v393 v394
  let c0_i32_310 : BitVec 32 := 0#32
  let v392 : BitVec 1 := Scalar.cmpi .ne v391 c0_i32_310
  let v396 : BitVec 1 := Scalar.andi v395 v392
  let v397 : BitVec 32 := Scalar.addi v391 v390
  let v398 : BitVec 32 := Scalar.select v396 v397 v391
  let c1_i32_318 : BitVec 32 := 1#32
  let v399 : BitVec 32 := Scalar.muli v398 c1_i32_318
  let v400 : BitVec 32 := Scalar.addi c0_i32_319 v399
  v400.toNat
def k0_dev16 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_324 : BitVec 32 := 2#32
  let v408 : BitVec 32 := Scalar.addi v2 c2_i32_324
  let c4_i32_325 : BitVec 32 := 4#32
  let c0_i32_326 : BitVec 32 := 0#32
  let v409 : BitVec 1 := Scalar.cmpi .eq c4_i32_325 c0_i32_326
  let c1_i32_327 : BitVec 32 := 1#32
  let v410 : BitVec 32 := Scalar.select v409 c1_i32_327 c4_i32_325
  let v411 : BitVec 32 := Scalar.remsi v408 v410
  let c0_i32_329 : BitVec 32 := 0#32
  let v413 : BitVec 1 := Scalar.cmpi .slt v411 c0_i32_329
  let c0_i32_330 : BitVec 32 := 0#32
  let v414 : BitVec 1 := Scalar.cmpi .slt v410 c0_i32_330
  let v415 : BitVec 1 := Scalar.xori v413 v414
  let c0_i32_328 : BitVec 32 := 0#32
  let v412 : BitVec 1 := Scalar.cmpi .ne v411 c0_i32_328
  let v416 : BitVec 1 := Scalar.andi v415 v412
  let v417 : BitVec 32 := Scalar.addi v411 v410
  let v418 : BitVec 32 := Scalar.select v416 v417 v411
  let c1_i32_336 : BitVec 32 := 1#32
  let v419 : BitVec 32 := Scalar.muli v418 c1_i32_336
  let v420 : BitVec 32 := Scalar.addi c0_i32_337 v419
  v420.toNat
def k0_dev17 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_342 : BitVec 32 := 3#32
  let v428 : BitVec 32 := Scalar.addi v2 c3_i32_342
  let c4_i32_343 : BitVec 32 := 4#32
  let c0_i32_344 : BitVec 32 := 0#32
  let v429 : BitVec 1 := Scalar.cmpi .eq c4_i32_343 c0_i32_344
  let c1_i32_345 : BitVec 32 := 1#32
  let v430 : BitVec 32 := Scalar.select v429 c1_i32_345 c4_i32_343
  let v431 : BitVec 32 := Scalar.remsi v428 v430
  let c0_i32_347 : BitVec 32 := 0#32
  let v433 : BitVec 1 := Scalar.cmpi .slt v431 c0_i32_347
  let c0_i32_348 : BitVec 32 := 0#32
  let v434 : BitVec 1 := Scalar.cmpi .slt v430 c0_i32_348
  let v435 : BitVec 1 := Scalar.xori v433 v434
  let c0_i32_346 : BitVec 32 := 0#32
  let v432 : BitVec 1 := Scalar.cmpi .ne v431 c0_i32_346
  let v436 : BitVec 1 := Scalar.andi v435 v432
  let v437 : BitVec 32 := Scalar.addi v431 v430
  let v438 : BitVec 32 := Scalar.select v436 v437 v431
  let c1_i32_354 : BitVec 32 := 1#32
  let v439 : BitVec 32 := Scalar.muli v438 c1_i32_354
  let v440 : BitVec 32 := Scalar.addi c0_i32_355 v439
  v440.toNat
def k0_off19 (d0 : Dev nD) : Fin 2 → Nat :=
  let c256_361 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_360 : BitVec 32 := 128#32
  let v448 : BitVec 32 := Scalar.muli v2 c128_i32_360
  let v449 : Index := Scalar.indexCast v448
  ![256, v449.toNat]
def k0_off20 (d0 : Dev nD) (c1_i32_380 : BitVec 32) : Fin 2 → Nat :=
  let c0_391 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v469 : BitVec 32 := Scalar.subi v2 c1_i32_380
  let c4_i32_381 : BitVec 32 := 4#32
  let c0_i32_382 : BitVec 32 := 0#32
  let v470 : BitVec 1 := Scalar.cmpi .eq c4_i32_381 c0_i32_382
  let c1_i32_383 : BitVec 32 := 1#32
  let v471 : BitVec 32 := Scalar.select v470 c1_i32_383 c4_i32_381
  let v472 : BitVec 32 := Scalar.remsi v469 v471
  let c0_i32_385 : BitVec 32 := 0#32
  let v474 : BitVec 1 := Scalar.cmpi .slt v472 c0_i32_385
  let c0_i32_386 : BitVec 32 := 0#32
  let v475 : BitVec 1 := Scalar.cmpi .slt v471 c0_i32_386
  let v476 : BitVec 1 := Scalar.xori v474 v475
  let c0_i32_384 : BitVec 32 := 0#32
  let v473 : BitVec 1 := Scalar.cmpi .ne v472 c0_i32_384
  let v477 : BitVec 1 := Scalar.andi v476 v473
  let v478 : BitVec 32 := Scalar.addi v472 v471
  let v479 : BitVec 32 := Scalar.select v477 v478 v472
  let c128_i32_390 : BitVec 32 := 128#32
  let v482 : BitVec 32 := Scalar.muli v479 c128_i32_390
  let v483 : Index := Scalar.indexCast v482
  ![0, v483.toNat]
def k0_off21 (d0 : Dev nD) (c1_i32_470 : BitVec 32) : Fin 2 → Nat :=
  let c256_481 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v571 : BitVec 32 := Scalar.subi v2 c1_i32_470
  let c4_i32_471 : BitVec 32 := 4#32
  let c0_i32_472 : BitVec 32 := 0#32
  let v572 : BitVec 1 := Scalar.cmpi .eq c4_i32_471 c0_i32_472
  let c1_i32_473 : BitVec 32 := 1#32
  let v573 : BitVec 32 := Scalar.select v572 c1_i32_473 c4_i32_471
  let v574 : BitVec 32 := Scalar.remsi v571 v573
  let c0_i32_475 : BitVec 32 := 0#32
  let v576 : BitVec 1 := Scalar.cmpi .slt v574 c0_i32_475
  let c0_i32_476 : BitVec 32 := 0#32
  let v577 : BitVec 1 := Scalar.cmpi .slt v573 c0_i32_476
  let v578 : BitVec 1 := Scalar.xori v576 v577
  let c0_i32_474 : BitVec 32 := 0#32
  let v575 : BitVec 1 := Scalar.cmpi .ne v574 c0_i32_474
  let v579 : BitVec 1 := Scalar.andi v578 v575
  let v580 : BitVec 32 := Scalar.addi v574 v573
  let v581 : BitVec 32 := Scalar.select v579 v580 v574
  let c128_i32_480 : BitVec 32 := 128#32
  let v584 : BitVec 32 := Scalar.muli v581 c128_i32_480
  let v585 : Index := Scalar.indexCast v584
  ![256, v585.toNat]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S512 : Shape := ⟨1, ![512]⟩
abbrev S_ : Shape := ⟨0, ![]⟩
abbrev S512x256x512 : Shape := ⟨3, ![512, 256, 512]⟩
abbrev S512x512 : Shape := ⟨2, ![512, 512]⟩

abbrev nBuf : Space → Nat
  | .hbm => 18
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S8x256x512, .bf16⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S512x256x512, .bf16⟩
  | .hbm, ⟨14, _⟩ => ⟨S512x256, .f32⟩
  | .hbm, ⟨15, _⟩ => ⟨S512x256x512, .f32⟩
  | .hbm, ⟨16, _⟩ => ⟨S512x512, .f32⟩
  | .hbm, ⟨17, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Setup.lean ====
/-
# The dispatch kernel's devices, cells, pieces and contents

Four devices. Every device computes, of each of the four column chunks of the result, the partial product of the two
experts it holds (`stageAt`: chunk `j` of device `c`'s stage buffer), sends every other device that device's chunk
(the reduce-scatter), adds the three chunks it is sent to its own (`redC`), and sends the sum to every other device
(the all-gather), so that every device ends with the whole result (`outC`). Each transfer moves one half of the 512 rows.

A device's slots are numbered by distance: through slot `k` device `c` sends to `nx c k = c + k + 1` and is sent to by
`pv c k = c - k - 1`, modulo 4.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic
public import Idealize.ShloMosaic.Lib.ValueLayout

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
/-- The device that device `c` sends to through slot `k`. -/
def nx (c : Dev nD) (k : Fin 3) : Dev nD := ⟨(c.val + k.val + 1) % 4, Nat.mod_lt _ (by decide)⟩
/-- The device that sends to device `c` through slot `k`. -/
def pv (c : Dev nD) (k : Fin 3) : Dev nD := nx c k.rev

theorem pv_nx (c : Dev nD) (k : Fin 3) : pv (nx c k) k = c := by revert c k; decide
theorem nx_pv (c : Dev nD) (k : Fin 3) : nx (pv c k) k = c := by revert c k; decide
theorem nx_ne (c : Dev nD) (k : Fin 3) : nx c k ≠ c := by revert c k; decide
theorem nx_inj (c : Dev nD) : Function.Injective (nx c) := by
  intro k k'; revert c k k'; decide

set_option backward.proofsInPublic true in
/-- The slot through which device `c` sends to device `j` (of no meaning at `j = c`). -/
def sl (c j : Dev nD) : Fin 3 := ⟨(j.val + 3 - c.val) % 4 % 3, Nat.mod_lt _ (by decide)⟩

theorem nx_sl {c j : Dev nD} (h : j ≠ c) : nx c (sl c j) = j := by revert c j; decide
theorem sl_nx (c : Dev nD) (k : Fin 3) : sl c (nx c k) = k := by revert c k; decide

/-- Sending through slot `k` permutes the devices. -/
def shift (k : Fin 3) : Dev nD ≃ Dev nD := ⟨fun c => nx c k, fun c => pv c k, fun c => pv_nx c k, fun c => nx_pv c k⟩

/-! ## The memrefs -/

abbrev xM : Memref sig .tc .vmem S512x256 .bf16 := Memref.whole cc0_stg0_0
abbrev rM : Memref sig .tc .vmem S512x1 .i32 := Memref.whole cc0_stg1_0
abbrev wM : Memref sig .tc .vmem S2x256x512 .bf16 := Memref.whole cc0_stg2_0
abbrev oM : Memref sig .tc .vmem S512x512 .bf16 := Memref.whole cc0_stg3_0
abbrev stM : Memref sig .tc .vmem S4x512x128 .bf16 := Memref.whole cc0_scratch0
abbrev rcM : Memref sig .tc .vmem S3x512x128 .bf16 := Memref.whole cc0_scratch1
abbrev gsM : Memref sig .tc .vmem S512x128 .bf16 := Memref.whole cc0_scratch2
abbrev gcM : Memref sig .tc .vmem S3x512x128 .bf16 := Memref.whole cc0_scratch3

/-! ## The rectangles the kernel names, by chunk, slot and half -/

theorem stWhole_inb (j : Fin 4) : ∀ a, (![j.val, 0, 0] : Fin 3 → Nat) a + S1x512x128.size a ≤ S4x512x128.size a := by revert j; decide
theorem stPiece_inb (j : Fin 4) (s : Fin 2) : ∀ a, (![j.val, 256 * s.val, 0] : Fin 3 → Nat) a + S1x256x128.size a ≤ S4x512x128.size a := by
  revert j s; decide
theorem cmPiece_inb (k : Fin 3) (s : Fin 2) : ∀ a, (![k.val, 256 * s.val, 0] : Fin 3 → Nat) a + S1x256x128.size a ≤ S3x512x128.size a := by
  revert k s; decide
theorem gsHalf_inb (s : Fin 2) : ∀ a, (![256 * s.val, 0] : Fin 2 → Nat) a + S256x128.size a ≤ S512x128.size a := by revert s; decide
theorem outPiece_inb (j : Fin 4) (s : Fin 2) : ∀ a, (![256 * s.val, 128 * j.val] : Fin 2 → Nat) a + S256x128.size a ≤ S512x512.size a := by
  revert j s; decide
theorem sem_inb (k : Fin 3) (s : Fin 2) : ∀ a, (![k.val, s.val] : Fin 2 → Nat) a + S1x1.size a ≤ S3x2.size a := by revert k s; decide
theorem wBlk_inb (e : Fin 2) (j : Fin 4) : ∀ a, (![e.val, 0, 128 * j.val] : Fin 3 → Nat) a + S1x256x128.size a ≤ S2x256x512.size a := by
  revert e j; decide

/-- Chunk `j` of the stage buffer; -/
abbrev stWhole (j : Fin 4) : Rect S4x512x128 := Rect.unit (s := S4x512x128) ![j.val, 0, 0] S1x512x128.size (stWhole_inb j)
/-- its half `s`. -/
abbrev stPiece (j : Fin 4) (s : Fin 2) : Rect S4x512x128 := Rect.unit (s := S4x512x128) ![j.val, 256 * s.val, 0] S1x256x128.size (stPiece_inb j s)
/-- Half `s` of slot `k` of a landing buffer. -/
abbrev cmPiece (k : Fin 3) (s : Fin 2) : Rect S3x512x128 := Rect.unit (s := S3x512x128) ![k.val, 256 * s.val, 0] S1x256x128.size (cmPiece_inb k s)
/-- Half `s` of the buffer the all-gather sends from. -/
abbrev gsHalf (s : Fin 2) : Rect S512x128 := Rect.unit (s := S512x128) ![256 * s.val, 0] S256x128.size (gsHalf_inb s)
/-- Half `s` of column chunk `j` of the result. -/
abbrev outPiece (j : Fin 4) (s : Fin 2) : Rect S512x512 := Rect.unit (s := S512x512) ![256 * s.val, 128 * j.val] S256x128.size (outPiece_inb j s)
/-- Columns `128 j ..` of the device's expert `e`. -/
abbrev wBlk (e : Fin 2) (j : Fin 4) : Rect S2x256x512 := Rect.unit (s := S2x256x512) ![e.val, 0, 128 * j.val] S1x256x128.size (wBlk_inb e j)

/-- The memref of a half of a stage chunk, and of a half of a landing slot, as the transfers name them. -/
abbrev stV (j : Fin 4) (s : Fin 2) : Memref sig .tc .vmem S256x128 .bf16 :=
  (stM.slice (stPiece j s) (fun _ => rfl)).squeeze S256x128 squeezes_S1x256x128_S256x128
abbrev rcV (k : Fin 3) (s : Fin 2) : Memref sig .tc .vmem S256x128 .bf16 :=
  (rcM.slice (cmPiece k s) (fun _ => rfl)).squeeze S256x128 squeezes_S1x256x128_S256x128
abbrev gcV (k : Fin 3) (s : Fin 2) : Memref sig .tc .vmem S256x128 .bf16 :=
  (gcM.slice (cmPiece k s) (fun _ => rfl)).squeeze S256x128 squeezes_S1x256x128_S256x128
abbrev gsV (s : Fin 2) : Memref sig .tc .vmem S256x128 .bf16 := gsM.slice (gsHalf s) (fun _ => rfl)

/-! ## The cells -/

/-- The runtime's barrier semaphore. -/
abbrev barS : Sem sig := (SemArray.scalar (sig.barrier 0 rfl) : Sems sig S_).sem

/-- The four families of transfer semaphores, each of one semaphore per slot and half: the reduce-scatter's send and
    receive (0, 1), the all-gather's send and receive (2, 3). -/
abbrev DK : Type := Fin 4 × Fin 3 × Fin 2

set_option backward.proofsInPublic true in
/-- The semaphore of a family at a slot and a half. -/
def ds (d : DK) : DmaSem sig := (⟨4 + 6 * d.1.val + 2 * d.2.1.val + d.2.2.val, by have := d.1.isLt; have := d.2.1.isLt; have := d.2.2.isLt; omega⟩ : Fin 28)

set_option backward.proofsInPublic true in
/-- The family, slot and half of a semaphore. -/
def dk (q : DmaSem sig) : DK :=
  (⟨(q.val - 4) / 6 % 4, Nat.mod_lt _ (by decide)⟩, ⟨(q.val - 4) / 2 % 3, Nat.mod_lt _ (by decide)⟩, ⟨q.val % 2, Nat.mod_lt _ (by decide)⟩)

theorem dk_ds (d : DK) : dk (ds d) = d := by revert d; decide
theorem ds_ge (d : DK) : 4 ≤ (ds d).val := by revert d; decide
theorem ds_inj : Function.Injective ds := fun a b h => by rw [← dk_ds a, h, dk_ds]

abbrev semAt (A : DmaSems sig S3x2) (k : Fin 3) (s : Fin 2) : DmaSem sig :=
  ((A.slice (Rect.unit (s := S3x2) ![k.val, s.val] S1x1.size (sem_inb k s))).squeeze S_ squeezes_S1x1_S_).sem

theorem semAt_rsS (k : Fin 3) (s : Fin 2) : semAt cc0_scratch4 k s = ds (0, k, s) := by revert k s; decide
theorem semAt_rsR (k : Fin 3) (s : Fin 2) : semAt cc0_scratch5 k s = ds (1, k, s) := by revert k s; decide
theorem semAt_agS (k : Fin 3) (s : Fin 2) : semAt cc0_scratch6 k s = ds (2, k, s) := by revert k s; decide
theorem semAt_agR (k : Fin 3) (s : Fin 2) : semAt cc0_scratch7 k s = ds (3, k, s) := by revert k s; decide

/-- The credit of one transfer: half a chunk. -/
abbrev N : ℕ := (rcV 0 0).view.dmaCredit
theorem N_pos : 0 < N := View.dmaCredit_pos _ (by decide)
theorem N_rc (k : Fin 3) (s : Fin 2) : (rcV k s).view.dmaCredit = N := rfl
theorem N_gc (k : Fin 3) (s : Fin 2) : (gcV k s).view.dmaCredit = N := rfl
theorem N_gs (s : Fin 2) : (gsV s).view.dmaCredit = N := rfl

abbrev barCell (c : Dev nD) : GSem nD τ sig := ((c : Thread nD τ), .reg barS)
abbrev dCell (c : Dev nD) (d : DK) : GSem nD τ sig := ((c : Thread nD τ), .dma (ds d))

/-- A device's 25 cells: the barrier (`none`) and the transfers'. -/
abbrev CK : Type := Option DK
def semOf : CK → SemLoc sig
  | none => .reg barS
  | some d => .dma (ds d)
abbrev kcell (ck : Dev nD × CK) : GSem nD τ sig := ((ck.1 : Thread nD τ), semOf ck.2)

/-- Which of a device's cells a semaphore is, if any. -/
def kindOf : SemLoc sig → Option CK
  | .reg b => if b = barS then some none else none
  | .dma q => if 4 ≤ q.val then some (some (dk q)) else none

theorem kindOf_bar : kindOf (.reg barS) = some none := by decide
theorem kindOf_ds (d : DK) : kindOf (.dma (ds d)) = some (some d) := (if_pos (ds_ge d)).trans (by rw [dk_ds])
theorem kindOf_semOf (q : CK) : kindOf (semOf q) = some q := by
  cases q with
  | none => exact kindOf_bar
  | some d => exact kindOf_ds d
theorem semOf_inj : Function.Injective semOf := fun a b h => by
  have := congrArg kindOf h; rw [kindOf_semOf, kindOf_semOf] at this; exact Option.some.inj this

/-! ## Contents -/

variable (m : (ℓ : Loc nD τ sig) → Buf (Elt F) ℓ)

/-- What is staged on device `c`: the tokens, their routes, the device's two experts. -/
def xstg (c : Dev nD) : (cc0_stg0_0 : Ref sig .tc).ty.Contents (Elt F) := (win0_0.blk (0 : Fin 1)).view.read (Elt F) (m ((c : Thread nD τ).loc main_arg0))
def rstg (c : Dev nD) : (cc0_stg1_0 : Ref sig .tc).ty.Contents (Elt F) := (win0_1.blk (0 : Fin 1)).view.read (Elt F) (m ((c : Thread nD τ).loc main_arg2))
def wstg (c : Dev nD) : (cc0_stg2_0 : Ref sig .tc).ty.Contents (Elt F) := (win0_2.blk (0 : Fin 1)).view.read (Elt F) (m ((c : Thread nD τ).loc main_arg3))

/-- The device's number as the kernel computes it. -/
abbrev pos (c : Dev nD) : BitVec 32 := Scalar.remsi (Scalar.divsi (Dev.word c) 1#32) 4#32

/-- Columns `128 j ..` of device `c`'s expert `e`, as loaded. -/
def wld (c : Dev nD) (e : Fin 2) (j : Fin 4) : Vec F S1x256x128 .bf16 := wM.view.readAt (Elt F) (wBlk e j).toLoadRect (wstg m c)

/-- Chunk `j` of device `c`'s partial product, as stored. -/
def chunkAt (c : Dev nD) (j : Fin 4) : FVec F S1x512x128 .bf16 :=
  k0_pay8 (k0_pay3 (pos c) (rstg m c) (xstg m c)) (k0_pay4 (pos c) (rstg m c) (xstg m c)) (wld m c 0 j) (wld m c 1 j)

/-- Device `c`'s stage buffer: its partial product, chunk by chunk. -/
def stageAt (c : Dev nD) : (cc0_scratch0 : Ref sig .tc).ty.Contents (Elt F) :=
  fun (i : S4x512x128.Idx) => chunkAt m c (i 0) (ix3 (0 : Fin 1) (i 1) (i 2))

/-- Device `c`'s landing buffer of the reduce-scatter: in slot `k`, chunk `c` of `pv c k`'s partial product. -/
def rsC (c : Dev nD) : (cc0_scratch1 : Ref sig .tc).ty.Contents (Elt F) :=
  fun (i : S3x512x128.Idx) => stageAt m (pv c (i 0)) (ix3 c (i 1) (i 2) : S4x512x128.Idx)

/-- What device `c` adds up: its own chunk, and slots 0, 1, 2, in this order, in f32. -/
def redC (c : Dev nD) : FVec F S512x128 .bf16 :=
  truncf .bf16 (addf (addf (addf (extf .f32 (fun (i : S512x128.Idx) => stageAt m c (ix3 c (i 0) (i 1) : S4x512x128.Idx)) bitsLt_bf16_f32)
    (extf .f32 (fun (i : S512x128.Idx) => rsC m c (ix3 (0 : Fin 3) (i 0) (i 1) : S3x512x128.Idx)) bitsLt_bf16_f32))
    (extf .f32 (fun (i : S512x128.Idx) => rsC m c (ix3 (1 : Fin 3) (i 0) (i 1) : S3x512x128.Idx)) bitsLt_bf16_f32))
    (extf .f32 (fun (i : S512x128.Idx) => rsC m c (ix3 (2 : Fin 3) (i 0) (i 1) : S3x512x128.Idx)) bitsLt_bf16_f32)) bitsLt_bf16_f32

/-- Device `c`'s landing buffer of the all-gather: in slot `k`, `pv c k`'s sum. -/
def agC (c : Dev nD) : (cc0_scratch3 : Ref sig .tc).ty.Contents (Elt F) :=
  fun (i : S3x512x128.Idx) => redC m (pv c (i 0)) (ix2 (i 1) (i 2) : S512x128.Idx)

set_option backward.proofsInPublic true in
/-- The result, the same on every device: column chunk `j` is device `j`'s sum. -/
def outC : (cc0_stg3_0 : Ref sig .tc).ty.Contents (Elt F) :=
  fun (i : S512x512.Idx) => redC m (⟨(i 1).val / 128, by have : (i 1).val < 512 := (i 1).isLt; omega⟩ : Fin 4)
    (ix2 (i 0) (⟨(i 1).val % 128, Nat.mod_lt _ (by decide)⟩ : Fin 128) : S512x128.Idx)

end Cert.Dispatch

end
-- ==== Proof.Pieces.lean ====
/-
# The pieces of the buffers, and what the transfers and the stores leave in them

A buffer held whole is its pieces held side by side (`st_chunks`, `chunk_halves`, `rc_pieces`, `gc_pieces`, `gs_halves`,
`out_pieces`). A transfer between two pieces leaves the destination's final contents (`rs_landed`, `ag_landed`), and so
does each store (`st_stored`, `gs_stored`, `out_stored_own`, `out_stored_landed`).
-/
module

public import proofs.«01_k».proof.Proof.Setup

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The index sets of the pieces -/

theorem mem_stWhole (j : Fin 4) (i : S4x512x128.Idx) : i ∈ (stWhole j).set ↔ (i 0).val = j.val := by
  have h1 : (i 1).val < 512 := (i 1).isLt
  have h2 : (i 2).val < 128 := (i 2).isLt
  rw [Rect.mem_set_unit]
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 512; omega
    | ⟨2, _⟩ => show 0 ≤ (i 2).val ∧ (i 2).val < 0 + 128; omega

theorem mem_stPiece (j : Fin 4) (s : Fin 2) (i : S4x512x128.Idx) :
    i ∈ (stPiece j s).set ↔ (i 0).val = j.val ∧ (i 1).val / 256 = s.val := by
  have h2 : (i 2).val < 128 := (i 2).isLt
  rw [Rect.mem_set_unit]
  constructor
  · intro h
    have h0 : j.val ≤ (i 0).val ∧ (i 0).val < j.val + 1 := h 0
    have h1 : 256 * s.val ≤ (i 1).val ∧ (i 1).val < 256 * s.val + 256 := h 1
    omega
  · intro h a
    match a with
    | ⟨0, _⟩ => show j.val ≤ (i 0).val ∧ (i 0).val < j.val + 1; omega
    | ⟨1, _⟩ => show 256 * s.val ≤ (i 1).val ∧ (i 1).val < 256 * s.val + 256; omega
    | ⟨2, _⟩ => show 0 ≤ (i 2).val ∧ (i 2).val < 0 + 128; omega

theorem mem_cmPiece (k : Fin 3) (s : Fin 2) (i : S3x512x128.Idx) :
    i ∈ (cmPiece k s).set ↔ (i 0).val = k.val ∧ (i 1).val / 256 = s.val := by
  have h2 : (i 2).val < 128 := (i 2).isLt
  rw [Rect.mem_set_unit]
  constructor
  · intro h
    have h0 : k.val ≤ (i 0).val ∧ (i 0).val < k.val + 1 := h 0
    have h1 : 256 * s.val ≤ (i 1).val ∧ (i 1).val < 256 * s.val + 256 := h 1
    omega
  · intro h a
    match a with
    | ⟨0, _⟩ => show k.val ≤ (i 0).val ∧ (i 0).val < k.val + 1; omega
    | ⟨1, _⟩ => show 256 * s.val ≤ (i 1).val ∧ (i 1).val < 256 * s.val + 256; omega
    | ⟨2, _⟩ => show 0 ≤ (i 2).val ∧ (i 2).val < 0 + 128; omega

theorem mem_gsHalf (s : Fin 2) (i : S512x128.Idx) : i ∈ (gsHalf s).set ↔ (i 0).val / 256 = s.val := by
  have h1 : (i 1).val < 128 := (i 1).isLt
  rw [Rect.mem_set_unit]
  constructor
  · intro h
    have h0 : 256 * s.val ≤ (i 0).val ∧ (i 0).val < 256 * s.val + 256 := h 0
    omega
  · intro h a
    match a with
    | ⟨0, _⟩ => show 256 * s.val ≤ (i 0).val ∧ (i 0).val < 256 * s.val + 256; omega
    | ⟨1, _⟩ => show 0 ≤ (i 1).val ∧ (i 1).val < 0 + 128; omega

theorem mem_outPiece (j : Fin 4) (s : Fin 2) (i : S512x512.Idx) :
    i ∈ (outPiece j s).set ↔ (i 0).val / 256 = s.val ∧ (i 1).val / 128 = j.val := by
  rw [Rect.mem_set_unit]
  constructor
  · intro h
    have h0 : 256 * s.val ≤ (i 0).val ∧ (i 0).val < 256 * s.val + 256 := h 0
    have h1 : 128 * j.val ≤ (i 1).val ∧ (i 1).val < 128 * j.val + 128 := h 1
    omega
  · intro h a
    match a with
    | ⟨0, _⟩ => show 256 * s.val ≤ (i 0).val ∧ (i 0).val < 256 * s.val + 256; omega
    | ⟨1, _⟩ => show 128 * j.val ≤ (i 1).val ∧ (i 1).val < 128 * j.val + 128; omega

theorem st_cover : (Finset.univ : Finset S4x512x128.Idx) = Finset.univ.biUnion fun j : Fin 4 => (stWhole j).set := by
  refine (Finset.eq_univ_iff_forall.mpr fun i => ?_).symm
  exact Finset.mem_biUnion.mpr ⟨i 0, Finset.mem_univ _, (mem_stWhole _ _).mpr rfl⟩

theorem st_disjoint {j j' : Fin 4} (h : j ≠ j') : Disjoint (stWhole j).set (stWhole j').set :=
  Finset.disjoint_left.mpr fun i h1 h2 => h (Fin.ext (((mem_stWhole _ _).mp h1).symm.trans ((mem_stWhole _ _).mp h2)))

theorem half_cases (n : ℕ) (h : n < 512) : n / 256 = (0 : Fin 2).val ∨ n / 256 = (1 : Fin 2).val := by
  show n / 256 = 0 ∨ n / 256 = 1; omega

theorem chunk_cover (j : Fin 4) : (stWhole j).set = (stPiece j 0).set ∪ (stPiece j 1).set := by
  ext i
  have h1 : (i 1).val < 512 := (i 1).isLt
  rw [Finset.mem_union, mem_stWhole, mem_stPiece, mem_stPiece]
  constructor
  · intro h; exact (half_cases _ h1).imp (fun e => ⟨h, e⟩) (fun e => ⟨h, e⟩)
  · rintro (h | h) <;> exact h.1

theorem chunk_disjoint (j : Fin 4) : Disjoint (stPiece j 0).set (stPiece j 1).set :=
  Finset.disjoint_left.mpr fun i h1 h2 => absurd (((mem_stPiece _ _ _).mp h1).2.symm.trans ((mem_stPiece _ _ _).mp h2).2) (by decide)

theorem cm_cover : (Finset.univ : Finset S3x512x128.Idx) = Finset.univ.biUnion fun p : Fin 3 × Fin 2 => (cmPiece p.1 p.2).set := by
  refine (Finset.eq_univ_iff_forall.mpr fun i => ?_).symm
  have h1 : (i 1).val < 512 := (i 1).isLt
  exact Finset.mem_biUnion.mpr ⟨(i 0, ⟨(i 1).val / 256, by omega⟩), Finset.mem_univ _, (mem_cmPiece _ _ _).mpr ⟨rfl, rfl⟩⟩

theorem cm_disjoint {p p' : Fin 3 × Fin 2} (h : p ≠ p') : Disjoint (cmPiece p.1 p.2).set (cmPiece p'.1 p'.2).set :=
  Finset.disjoint_left.mpr fun i h1 h2 => by
    have e1 := (mem_cmPiece _ _ _).mp h1
    have e2 := (mem_cmPiece _ _ _).mp h2
    exact h (Prod.ext (Fin.ext (e1.1.symm.trans e2.1)) (Fin.ext (e1.2.symm.trans e2.2)))

theorem gs_cover : (Finset.univ : Finset S512x128.Idx) = (gsHalf 0).set ∪ (gsHalf 1).set := by
  refine (Finset.eq_univ_iff_forall.mpr fun i => ?_).symm
  rw [Finset.mem_union, mem_gsHalf, mem_gsHalf]
  exact half_cases _ (i 0).isLt

theorem gs_disjoint : Disjoint (gsHalf 0).set (gsHalf 1).set :=
  Finset.disjoint_left.mpr fun i h1 h2 => absurd (((mem_gsHalf _ _).mp h1).symm.trans ((mem_gsHalf _ _).mp h2)) (by decide)

theorem out_cover : (Finset.univ : Finset S512x512.Idx)
    = Finset.univ.biUnion fun j : Fin 4 => (outPiece j 0).set ∪ (outPiece j 1).set := by
  refine (Finset.eq_univ_iff_forall.mpr fun i => ?_).symm
  have h1 : (i 1).val < 512 := (i 1).isLt
  refine Finset.mem_biUnion.mpr ⟨⟨(i 1).val / 128, by omega⟩, Finset.mem_univ _, ?_⟩
  rw [Finset.mem_union, mem_outPiece, mem_outPiece]
  exact (half_cases _ (i 0).isLt).imp (fun e => ⟨e, rfl⟩) (fun e => ⟨e, rfl⟩)

theorem out_disjoint {j j' : Fin 4} (s s' : Fin 2) (h : j ≠ j' ∨ s ≠ s') : Disjoint (outPiece j s).set (outPiece j' s').set :=
  Finset.disjoint_left.mpr fun i h1 h2 => by
    have e1 := (mem_outPiece _ _ _).mp h1
    have e2 := (mem_outPiece _ _ _).mp h2
    exact h.elim (fun h => h (Fin.ext (e1.2.symm.trans e2.2))) (fun h => h (Fin.ext (e1.1.symm.trans e2.1)))

/-! ## Points-to of the pieces -/

omit [FloatOps F] in
theorem pt_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) := BI.equiv_iff.mp ⟨(pointsTo_union h).1, (pointsTo_union h).2⟩

section Pts
variable (c : Dev nD) (q : PosShare TreeShare)

/-- Chunk `j` of device `c`'s stage buffer holding `f` there; -/
abbrev chP (j : Fin 4) (f : Buf (Elt F) ((c : Thread nD τ).loc cc0_scratch0)) : sProp 𝕄 :=
  ((c : Thread nD τ).loc cc0_scratch0) ↦[(stWhole j).set]{fullShare} f
/-- half `s` of it; -/
abbrev stP (j : Fin 4) (s : Fin 2) (f : Buf (Elt F) ((c : Thread nD τ).loc cc0_scratch0)) : sProp 𝕄 :=
  ((c : Thread nD τ).loc cc0_scratch0) ↦[(stPiece j s).set]{fullShare} f
/-- half `s` of slot `k` of its reduce-scatter landing buffer, -/
abbrev rcP (k : Fin 3) (s : Fin 2) (f : Buf (Elt F) ((c : Thread nD τ).loc cc0_scratch1)) : sProp 𝕄 :=
  ((c : Thread nD τ).loc cc0_scratch1) ↦[(cmPiece k s).set]{fullShare} f
/-- of its all-gather landing buffer; -/
abbrev gcP (k : Fin 3) (s : Fin 2) (f : Buf (Elt F) ((c : Thread nD τ).loc cc0_scratch3)) : sProp 𝕄 :=
  ((c : Thread nD τ).loc cc0_scratch3) ↦[(cmPiece k s).set]{fullShare} f
/-- half `s` of the buffer its all-gather sends from, at share `q`; -/
abbrev gsP (s : Fin 2) (f : Buf (Elt F) ((c : Thread nD τ).loc cc0_scratch2)) : sProp 𝕄 :=
  ((c : Thread nD τ).loc cc0_scratch2) ↦[(gsHalf s).set]{q} f
/-- half `s` of column chunk `j` of its result. -/
abbrev outP (j : Fin 4) (s : Fin 2) (f : Buf (Elt F) ((c : Thread nD τ).loc cc0_stg3_0)) : sProp 𝕄 :=
  ((c : Thread nD τ).loc cc0_stg3_0) ↦[(outPiece j s).set]{fullShare} f

omit [FloatOps F] in
theorem st_chunks (f : Buf (Elt F) ((c : Thread nD τ).loc cc0_scratch0)) :
    (((c : Thread nD τ).loc cc0_scratch0) ↦{fullShare} f : sProp 𝕄) = bigSep Finset.univ fun j : Fin 4 => chP c j f := by
  rw [show (Finset.univ : Finset (Idx ((c : Thread nD τ).loc cc0_scratch0))) = _ from st_cover]
  exact pointsTo_biUnion _ _ fun j _ j' _ h => st_disjoint h

omit [FloatOps F] in
theorem chunk_halves (j : Fin 4) (f : Buf (Elt F) ((c : Thread nD τ).loc cc0_scratch0)) :
    chP c j f = iprop(stP c j 0 f ∗ stP c j 1 f) := by
  unfold chP
  rw [chunk_cover]
  exact pt_union (chunk_disjoint j)

omit [FloatOps F] in
theorem rc_pieces (f : Buf (Elt F) ((c : Thread nD τ).loc cc0_scratch1)) :
    (((c : Thread nD τ).loc cc0_scratch1) ↦{fullShare} f : sProp 𝕄) = bigSep Finset.univ fun p : Fin 3 × Fin 2 => rcP c p.1 p.2 f := by
  rw [show (Finset.univ : Finset (Idx ((c : Thread nD τ).loc cc0_scratch1))) = _ from cm_cover]
  exact pointsTo_biUnion _ _ fun p _ p' _ h => cm_disjoint h

omit [FloatOps F] in
theorem gc_pieces (f : Buf (Elt F) ((c : Thread nD τ).loc cc0_scratch3)) :
    (((c : Thread nD τ).loc cc0_scratch3) ↦{fullShare} f : sProp 𝕄) = bigSep Finset.univ fun p : Fin 3 × Fin 2 => gcP c p.1 p.2 f := by
  rw [show (Finset.univ : Finset (Idx ((c : Thread nD τ).loc cc0_scratch3))) = _ from cm_cover]
  exact pointsTo_biUnion _ _ fun p _ p' _ h => cm_disjoint h

omit [FloatOps F] in
theorem gs_halves (f : Buf (Elt F) ((c : Thread nD τ).loc cc0_scratch2)) :
    (((c : Thread nD τ).loc cc0_scratch2) ↦{q} f : sProp 𝕄) = iprop(gsP c q 0 f ∗ gsP c q 1 f) := by
  rw [show (Finset.univ : Finset (Idx ((c : Thread nD τ).loc cc0_scratch2))) = _ from gs_cover]
  exact pt_union gs_disjoint

omit [FloatOps F] in
theorem out_pieces (f : Buf (Elt F) ((c : Thread nD τ).loc cc0_stg3_0)) :
    (((c : Thread nD τ).loc cc0_stg3_0) ↦{fullShare} f : sProp 𝕄)
      = bigSep Finset.univ fun j : Fin 4 => iprop(outP c j 0 f ∗ outP c j 1 f) := by
  rw [show (Finset.univ : Finset (Idx ((c : Thread nD τ).loc cc0_stg3_0))) = _ from out_cover]
  rw [pointsTo_biUnion]
  · exact bigSep_congr fun j _ => pt_union (out_disjoint (j := j) (j' := j) 0 1 (Or.inr (by decide)))
  · intro j _ j' _ h
    exact Finset.disjoint_union_left.mpr ⟨Finset.disjoint_union_right.mpr ⟨out_disjoint _ _ (Or.inl h), out_disjoint _ _ (Or.inl h)⟩,
      Finset.disjoint_union_right.mpr ⟨out_disjoint _ _ (Or.inl h), out_disjoint _ _ (Or.inl h)⟩⟩

end Pts

/-! ## What the transfers leave -/

omit [FloatOps F] in
theorem stV_set (j : Fin 4) (s : Fin 2) : (stV j s).view.set = (stPiece j s).set := (View.set_reshape _ _).trans (View.set_slice_whole _ _)
omit [FloatOps F] in
theorem rcV_set (k : Fin 3) (s : Fin 2) : (rcV k s).view.set = (cmPiece k s).set := (View.set_reshape _ _).trans (View.set_slice_whole _ _)
omit [FloatOps F] in
theorem gcV_set (k : Fin 3) (s : Fin 2) : (gcV k s).view.set = (cmPiece k s).set := (View.set_reshape _ _).trans (View.set_slice_whole _ _)
omit [FloatOps F] in
theorem gsV_set (s : Fin 2) : (gsV s).view.set = (gsHalf s).set := View.set_slice_whole _ _

/-- An index of a `256 × 128` block as an index of the `1 × 256 × 128` slice it squeezes. -/
abbrev unsq : S256x128.Idx ↪ S1x256x128.Idx := (Shape.reshapeEquiv (s := S1x256x128) (s' := S256x128) rfl).toEmbedding

variable (m : (ℓ : Loc nD τ sig) → Buf (Elt F) ℓ)

omit [FloatOps F] in
/-- It is the index with the same row and column. -/
theorem unsq_ix2 (r : Fin 256) (h : Fin 128) : unsq (ix2 r h : S256x128.Idx) = (ix3 (0 : Fin 1) r h : S1x256x128.Idx) :=
  shapeCast_1ab_ab_apply (a := 256) (b := 128) (fun i => i) shapeCasts_S1x256x128_S256x128 r h

omit [FloatOps F] in
theorem exists_ix2 {a b : ℕ} (y : (⟨2, ![a, b]⟩ : Shape).Idx) : ∃ (r : Fin a) (h : Fin b), y = ix2 r h := ⟨y 0, y 1, eq_ix2 y⟩

omit [FloatOps F] in
theorem exists_ix3 {a b : ℕ} (y : (⟨3, ![1, a, b]⟩ : Shape).Idx) : ∃ (r : Fin a) (h : Fin b), y = ix3 (0 : Fin 1) r h := by
  have h0 : ∀ u : Fin 1, u = 0 := fun u => Subsingleton.elim _ _
  have e : ∀ u : Fin 1, ∀ (r : Fin a) (h : Fin b), (ix3 u r h : (⟨3, ![1, a, b]⟩ : Shape).Idx) = ix3 (0 : Fin 1) r h := fun u r h => by rw [h0 u]
  exact ⟨y 1, y 2, (eq_ix3 y).trans (e _ _ _)⟩

theorem st_at (j : Fin 4) (n : Fin 512) (h : Fin 128) (c : Dev nD) :
    stageAt m c (ix3 j n h : S4x512x128.Idx) = chunkAt m c j (ix3 (0 : Fin 1) n h) := rfl

/-- Row `256 s + r` of the 512. -/
abbrev row (s : Fin 2) (r : Fin 256) : Fin 512 := ⟨256 * s.val + r.val, by have := s.isLt; have := r.isLt; omega⟩
/-- Column `128 j + h` of the 512. -/
abbrev col (j : Fin 4) (h : Fin 128) : Fin 512 := ⟨128 * j.val + h.val, by have := j.isLt; have := h.isLt; omega⟩

omit [FloatOps F] in
theorem stPiece_emb (j : Fin 4) (s : Fin 2) (r : Fin 256) (h : Fin 128) :
    (stPiece j s).emb (ix3 (0 : Fin 1) r h : S1x256x128.Idx) = (ix3 j (row s r) h : S4x512x128.Idx) := by
  funext a
  match a with
  | ⟨0, _⟩ => exact Fin.ext (show j.val + 1 * 0 = j.val by omega)
  | ⟨1, _⟩ => exact Fin.ext (show 256 * s.val + 1 * r.val = 256 * s.val + r.val by omega)
  | ⟨2, _⟩ => exact Fin.ext (show 0 + 1 * h.val = h.val by omega)

omit [FloatOps F] in
theorem cmPiece_emb (k : Fin 3) (s : Fin 2) (r : Fin 256) (h : Fin 128) :
    (cmPiece k s).emb (ix3 (0 : Fin 1) r h : S1x256x128.Idx) = (ix3 k (row s r) h : S3x512x128.Idx) := by
  funext a
  match a with
  | ⟨0, _⟩ => exact Fin.ext (show k.val + 1 * 0 = k.val by omega)
  | ⟨1, _⟩ => exact Fin.ext (show 256 * s.val + 1 * r.val = 256 * s.val + r.val by omega)
  | ⟨2, _⟩ => exact Fin.ext (show 0 + 1 * h.val = h.val by omega)

omit [FloatOps F] in
theorem stWhole_emb (j : Fin 4) (n : Fin 512) (h : Fin 128) :
    (stWhole j).emb (ix3 (0 : Fin 1) n h : S1x512x128.Idx) = (ix3 j n h : S4x512x128.Idx) := by
  funext a
  match a with
  | ⟨0, _⟩ => exact Fin.ext (show j.val + 1 * 0 = j.val by omega)
  | ⟨1, _⟩ => exact Fin.ext (show 0 + 1 * n.val = n.val by omega)
  | ⟨2, _⟩ => exact Fin.ext (show 0 + 1 * h.val = h.val by omega)

omit [FloatOps F] in
theorem gsHalf_emb (s : Fin 2) (r : Fin 256) (h : Fin 128) :
    (gsHalf s).emb (ix2 r h : S256x128.Idx) = (ix2 (row s r) h : S512x128.Idx) := by
  funext a
  match a with
  | ⟨0, _⟩ => exact Fin.ext (show 256 * s.val + 1 * r.val = 256 * s.val + r.val by omega)
  | ⟨1, _⟩ => exact Fin.ext (show 0 + 1 * h.val = h.val by omega)

omit [FloatOps F] in
theorem outPiece_emb (j : Fin 4) (s : Fin 2) (r : Fin 256) (h : Fin 128) :
    (outPiece j s).emb (ix2 r h : S256x128.Idx) = (ix2 (row s r) (col j h) : S512x512.Idx) := by
  funext a
  match a with
  | ⟨0, _⟩ => exact Fin.ext (show 256 * s.val + 1 * r.val = 256 * s.val + r.val by omega)
  | ⟨1, _⟩ => exact Fin.ext (show 128 * j.val + 1 * h.val = 128 * j.val + h.val by omega)

/-- The reduce-scatter's transfer through slot `k`, half `s`, leaves in device `nx c k`'s landing piece its final contents. -/
theorem rs_landed (c : Dev nD) (k : Fin 3) (s : Fin 2) (fd : (cc0_scratch1 : Ref sig .tc).ty.Contents (Elt F)) :
    ∀ i ∈ (cmPiece k s).set, (rcV k s).view.write (Elt F) fd ((stV (nx c k) s).view.read (Elt F) (stageAt m c)) Finset.univ i
      = rsC m (nx c k) i := by
  intro i hi
  rw [← rcV_set] at hi
  obtain ⟨y, rfl⟩ := View.exists_emb_of_mem_set _ hi
  rw [View.write_emb_of_mem _ _ (Finset.mem_univ y)]
  obtain ⟨r, h, rfl⟩ := exists_ix2 (a := 256) (b := 128) y
  show stageAt m c ((stPiece (nx c k) s).emb (unsq (ix2 r h))) = rsC m (nx c k) ((cmPiece k s).emb (unsq (ix2 r h)))
  rw [unsq_ix2, stPiece_emb, cmPiece_emb]
  show _ = stageAt m (pv (nx c k) k) (ix3 (nx c k) (row s r) h : S4x512x128.Idx)
  rw [pv_nx]

/-- The all-gather's transfer through slot `k`, half `s`, leaves in device `nx c k`'s landing piece its final contents. -/
theorem ag_landed (c : Dev nD) (k : Fin 3) (s : Fin 2) (fd : (cc0_scratch3 : Ref sig .tc).ty.Contents (Elt F)) :
    ∀ i ∈ (cmPiece k s).set, (gcV k s).view.write (Elt F) fd ((gsV s).view.read (Elt F) (redC m c)) Finset.univ i
      = agC m (nx c k) i := by
  intro i hi
  rw [← gcV_set] at hi
  obtain ⟨y, rfl⟩ := View.exists_emb_of_mem_set _ hi
  rw [View.write_emb_of_mem _ _ (Finset.mem_univ y)]
  obtain ⟨r, h, rfl⟩ := exists_ix2 (a := 256) (b := 128) y
  show redC m c ((gsHalf s).emb (ix2 r h : S256x128.Idx)) = agC m (nx c k) ((cmPiece k s).emb (unsq (ix2 r h)))
  rw [unsq_ix2, cmPiece_emb, gsHalf_emb]
  show _ = redC m (pv (nx c k) k) (ix2 (row s r) h : S512x128.Idx)
  rw [pv_nx]

/-! ## What the stores leave -/

theorem st_read (c : Dev nD) (j : Fin 4) (y : S1x512x128.Idx) : chunkAt m c j y = stageAt m c ((stWhole j).emb y) := by
  obtain ⟨n, h, rfl⟩ := exists_ix3 (a := 512) (b := 128) y
  rw [stWhole_emb, st_at]

/-- Storing chunk `j` leaves the stage buffer's final contents there. -/
theorem st_stored (c : Dev nD) (j : Fin 4) (f : (cc0_scratch0 : Ref sig .tc).ty.Contents (Elt F)) :
    ∀ i ∈ (stWhole j).set, (stM.access (stWhole j) : View sig .tc _ _ _).write (Elt F) f (chunkAt m c j) Finset.univ i = stageAt m c i := by
  intro i hi
  obtain ⟨y, -, rfl⟩ := Finset.mem_map.mp (show i ∈ Finset.univ.map (stWhole j).emb from (Rect.map_emb_univ _).symm ▸ hi)
  refine (View.write_emb_of_mem (v := stM.access (stWhole j)) f (chunkAt m c j) (Finset.mem_univ y)).trans ?_
  exact st_read m c j y

/-- What device `c` loads: its own chunk of its stage buffer, -/
def ownL (c : Dev nD) : Vec F S1x512x128 .bf16 := fun y => stageAt m c ((stWhole c).emb y)
/-- half `s` of slot `k` of its reduce-scatter landing buffer, -/
def rsL (c : Dev nD) (k : Fin 3) (s : Fin 2) : Vec F S1x256x128 .bf16 := fun y => rsC m c ((cmPiece k s).emb y)
/-- of its all-gather landing buffer. -/
def agL (c : Dev nD) (k : Fin 3) (s : Fin 2) : Vec F S1x256x128 .bf16 := fun y => agC m c ((cmPiece k s).emb y)

/-- Half `s` of the sum, as stored. -/
def redH (c : Dev nD) (s : Fin 2) : FVec F S256x128 .bf16 := fun y => redC m c ((gsHalf s).emb y)

/-- The kernel's additions over the first half of the rows are that half of the sum. -/
theorem red_0 (c : Dev nD) : k0_pay14 (k0_pay13 (ownL m c)) (rsL m c 0 0) (rsL m c 1 0) (rsL m c 2 0) = redH m c 0 := by
  funext y
  obtain ⟨r, h, rfl⟩ := exists_ix2 (a := 256) (b := 128) y
  unfold redH
  rw [gsHalf_emb]
  unfold k0_pay14 k0_pay13 redC
  dsimp only [truncf, addf]
  rw [slice2_axis0_apply 0 _ _ r h (row 0 r) rfl]
  dsimp only [extf]
  rw [shapeCast_1ab_ab_apply, shapeCast_1ab_ab_apply, shapeCast_1ab_ab_apply, shapeCast_1ab_ab_apply]
  unfold ownL rsL
  rw [stWhole_emb, cmPiece_emb, cmPiece_emb, cmPiece_emb]

/-- So are those over the second half. -/
theorem red_1 (c : Dev nD) :
    k0_pay18 (k0_pay16 (k0_pay13 (ownL m c)) (rsL m c 0 1)) (k0_pay17 (rsL m c 1 1)) (rsL m c 2 1) = redH m c 1 := by
  funext y
  obtain ⟨r, h, rfl⟩ := exists_ix2 (a := 256) (b := 128) y
  unfold redH
  rw [gsHalf_emb]
  unfold k0_pay18 k0_pay17 k0_pay16 k0_pay13 redC
  dsimp only [truncf, addf]
  rw [slice2_axis0_apply 256 _ _ r h (row 1 r) rfl]
  dsimp only [extf]
  rw [shapeCast_1ab_ab_apply, shapeCast_1ab_ab_apply, shapeCast_1ab_ab_apply, shapeCast_1ab_ab_apply]
  unfold ownL rsL
  rw [stWhole_emb, cmPiece_emb, cmPiece_emb, cmPiece_emb]

/-- A block as loaded from an all-gather slot, without its leading axis. -/
abbrev unblk (v : Vec F S1x256x128 .bf16) : FVec F S256x128 .bf16 := shapeCast S256x128 v shapeCasts_S1x256x128_S256x128

/-- Storing a half of the sum leaves the final contents of the buffer the all-gather sends from. -/
theorem gs_stored (c : Dev nD) (s : Fin 2) (f : (cc0_scratch2 : Ref sig .tc).ty.Contents (Elt F)) :
    ∀ i ∈ (gsHalf s).set, (gsM.access (gsHalf s) : View sig .tc _ _ _).write (Elt F) f (redH m c s) Finset.univ i = redC m c i := by
  intro i hi
  obtain ⟨y, -, rfl⟩ := Finset.mem_map.mp (show i ∈ Finset.univ.map (gsHalf s).emb from (Rect.map_emb_univ _).symm ▸ hi)
  exact View.write_emb_of_mem (v := gsM.access (gsHalf s)) f (redH m c s) (Finset.mem_univ y)

theorem out_at (j : Fin 4) (n : Fin 512) (h : Fin 128) : outC m (ix2 n (col j h) : S512x512.Idx) = redC m j (ix2 n h : S512x128.Idx) := by
  have e1 : (⟨(col j h).val / 128, by have := (col j h).isLt; omega⟩ : Fin 4) = j := Fin.ext (show (128 * j.val + h.val) / 128 = j.val by have := h.isLt; omega)
  have e2 : (⟨(col j h).val % 128, Nat.mod_lt _ (by decide)⟩ : Fin 128) = h := Fin.ext (show (128 * j.val + h.val) % 128 = h.val by have := h.isLt; omega)
  show redC m (⟨(col j h).val / 128, _⟩ : Fin 4) (ix2 n (⟨(col j h).val % 128, _⟩ : Fin 128) : S512x128.Idx) = _
  rw [e1, e2]

/-- Storing half `s` of device `j`'s sum at its place in the result leaves the result's final contents there. -/
theorem out_stored (j : Fin 4) (s : Fin 2) (f : (cc0_stg3_0 : Ref sig .tc).ty.Contents (Elt F)) :
    ∀ i ∈ (outPiece j s).set, (oM.access (outPiece j s) : View sig .tc _ _ _).write (Elt F) f (redH m j s) Finset.univ i = outC m i := by
  intro i hi
  obtain ⟨y, -, rfl⟩ := Finset.mem_map.mp (show i ∈ Finset.univ.map (outPiece j s).emb from (Rect.map_emb_univ _).symm ▸ hi)
  refine (View.write_emb_of_mem (v := oM.access (outPiece j s)) f (redH m j s) (Finset.mem_univ y)).trans ?_
  obtain ⟨r, h, rfl⟩ := exists_ix2 (a := 256) (b := 128) y
  show redC m j ((gsHalf s).emb (ix2 r h : S256x128.Idx)) = outC m ((outPiece j s).emb (ix2 r h : S256x128.Idx))
  rw [gsHalf_emb, outPiece_emb, out_at]

/-- What the all-gather landed in slot `k` is device `pv c k`'s sum. -/
theorem unblk_agL (c : Dev nD) (k : Fin 3) (s : Fin 2) : unblk (agL m c k s) = redH m (pv c k) s := by
  funext y
  obtain ⟨r, h, rfl⟩ := exists_ix2 (a := 256) (b := 128) y
  unfold redH unblk
  rw [gsHalf_emb, shapeCast_1ab_ab_apply]
  unfold agL
  rw [cmPiece_emb]
  rfl

end Cert.Dispatch

end
-- ==== Proof.Sched.lean ====
/-
# The protocol: the schedule of the cells, what each device owes, and the levels

One round. A device's barrier cell has three duties of one unit, named by the slot through which its payload will be
used: the duty `k` is paid by the device `nx c k` with the two landing slots through which `c` sends to it. A transfer
cell has one duty of half a chunk's credit: the send cells return what was sent, the receive cells hand over what landed.

A device owes, in the order it pays: the three barriers; the reduce-scatter's receive cells, chunk by chunk; the
all-gather's receive cells of half 0, then of half 1. A barrier cell is at level 1, a reduce-scatter receive cell at 2, an
all-gather receive cell at 3, all other cells at 0: every wait is below what is still owed when it happens.
-/
module

public import proofs.«01_k».proof.Proof.Pieces
public import Mathlib.Tactic.Abel

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The payloads and the schedule -/

/-- Device `p`'s two landing slots `k`, at any contents. -/
def landing (p : Dev nD) (k : Fin 3) : sProp 𝕄 :=
  iprop(((∃ f, rcP p k 0 f) ∗ (∃ f, rcP p k 1 f)) ∗ ((∃ f, gcP p k 0 f) ∗ (∃ f, gcP p k 1 f)))

variable (m : (ℓ : Loc nD τ sig) → Buf (Elt F) ℓ)

/-- What a wait on device `c`'s transfer cell hands over: the sent half chunk back, the landed half chunk, the part of the
    sent sum back, the landed sum. -/
def xferPay (c : Dev nD) (d : DK) : sProp 𝕄 :=
  if d.1 = 0 then stP c (nx c d.2.1) d.2.2 (stageAt m c)
  else if d.1 = 1 then rcP c d.2.1 d.2.2 (rsC m c)
  else if d.1 = 2 then gsP c (Ring.shares3 fullShare d.2.1) d.2.2 (redC m c)
  else gcP c d.2.1 d.2.2 (agC m c)

omit [FloatOps F] in
instance landing_storable (p : Dev nD) (k : Fin 3) : BI.Storable (upEmb : UEmb _ 𝕄) (landing (F := F) p k) := by
  unfold landing; infer_instance
instance xferPay_storable (c : Dev nD) (d : DK) : BI.Storable (upEmb : UEmb _ 𝕄) (xferPay m c d) := by
  unfold xferPay; (repeat' split) <;> infer_instance

/-- The duties of a cell's one round, its amounts and its payloads. -/
def sched : Rounds.Schedule (GSem nD τ sig) (Fin 3) 𝕄 where
  duties g r := if r = 0 ∧ g.1.2 = .tc then (match kindOf g.2 with | some none => Finset.univ | some (some _) => {0} | none => ∅) else ∅
  unitless _ := False
  amount g _ _ := if g.2 = .reg barS then 1 else N
  payload g _ d := match kindOf g.2 with | some none => landing (nx g.1.1 d) d | some (some e) => xferPay m g.1.1 e | none => iprop(emp)
  amount_pos g _ _ _ := by
    by_cases h : g.2 = .reg barS
    · rw [if_pos h]; exact Nat.one_pos
    · rw [if_neg h]; exact N_pos

instance sched_storable (g : GSem nD τ sig) (r : ℕ) (d : Fin 3) : BI.Storable (upEmb : UEmb _ 𝕄) ((sched m).payload g r d) := by
  show BI.Storable upEmb (match kindOf g.2 with | some none => landing (nx g.1.1 d) d | some (some e) => xferPay m g.1.1 e | none => iprop(emp))
  (repeat' split) <;> infer_instance

section Tables
variable (c : Dev nD) (d : DK)

theorem ds_ne_bar : (SemLoc.dma (ds d) : SemLoc sig) ≠ .reg barS := fun h => by cases h

theorem duties_bar : (sched m).duties (barCell c) 0 = Finset.univ := by
  dsimp only [sched]; rw [if_pos ⟨rfl, rfl⟩, kindOf_bar]
theorem duties_xfer : (sched m).duties (dCell c d) 0 = {0} := by
  dsimp only [sched]; rw [if_pos ⟨rfl, rfl⟩, kindOf_ds]
theorem duties_later (g : GSem nD τ sig) : ∀ r, 1 ≤ r → (sched m).duties g r = ∅ :=
  fun r hr => by dsimp only [sched]; rw [if_neg fun h => by omega]

theorem amount_bar (k : Fin 3) : (sched m).amount (barCell c) 0 k = 1 := by dsimp only [sched]; exact if_pos rfl
theorem amount_xfer (k : Fin 3) : (sched m).amount (dCell c d) 0 k = N := by dsimp only [sched]; exact if_neg (ds_ne_bar d)

theorem expect_bar : (sched m).expect (barCell c) 0 = 3 := by
  unfold Schedule.expect Schedule.amountOf
  rw [duties_bar, Finset.sum_congr rfl fun k _ => amount_bar m c k, Finset.sum_const, Finset.card_univ, Fintype.card_fin, smul_eq_mul]
theorem expect_xfer : (sched m).expect (dCell c d) 0 = N := by
  unfold Schedule.expect Schedule.amountOf; rw [duties_xfer, Finset.sum_singleton, amount_xfer]

theorem payload_bar (k : Fin 3) : (sched m).payload (barCell c) 0 k = landing (nx c k) k := by
  dsimp only [sched]; rw [kindOf_bar]
theorem payload_xfer (k : Fin 3) : (sched m).payload (dCell c d) 0 k = xferPay m c d := by
  dsimp only [sched]; rw [kindOf_ds]

/-- The three payloads of a barrier cell, none taken; -/
theorem rest_bar : bigSep ((sched m).duties (barCell c) 0 \ ∅) (fun k => (sched m).payload (barCell c) 0 k)
    = bigSep Finset.univ fun k : Fin 3 => landing (F := F) (nx c k) k := by
  rw [Finset.sdiff_empty, duties_bar]; exact bigSep_congr fun k _ => payload_bar m c k
/-- the one of a transfer cell. -/
theorem rest_xfer : bigSep ((sched m).duties (dCell c d) 0 \ ∅) (fun k => (sched m).payload (dCell c d) 0 k) = xferPay m c d := by
  rw [Finset.sdiff_empty, duties_xfer, bigSep_singleton, payload_xfer]

theorem pay_rsS (k : Fin 3) (s : Fin 2) : xferPay m c (0, k, s) = stP c (nx c k) s (stageAt m c) := by unfold xferPay; exact if_pos rfl
theorem pay_rsR (k : Fin 3) (s : Fin 2) : xferPay m c (1, k, s) = rcP c k s (rsC m c) := by unfold xferPay; rfl
theorem pay_agS (k : Fin 3) (s : Fin 2) : xferPay m c (2, k, s) = gsP c (Ring.shares3 fullShare k) s (redC m c) := by unfold xferPay; rfl
theorem pay_agR (k : Fin 3) (s : Fin 2) : xferPay m c (3, k, s) = gcP c k s (agC m c) := by unfold xferPay; rfl

end Tables

/-! ## What each device owes -/

section Owes
variable (c : Dev nD)

/-- A unit to the barrier of `nx c k`; -/
def TB (k : Fin 3) : CellTallies nD τ sig Unit := tallyAt (barCell (nx c k)) () 1
/-- a half chunk to the reduce-scatter's receive cell of `nx c k`, -/
def TR (k : Fin 3) (s : Fin 2) : CellTallies nD τ sig Unit := tallyAt (dCell (nx c k) (1, k, s)) () N
/-- to the all-gather's. -/
def TA (k : Fin 3) (s : Fin 2) : CellTallies nD τ sig Unit := tallyAt (dCell (nx c k) (3, k, s)) () N
/-- What is owed of the reduce-scatter for chunk `j`. -/
def TC (j : Dev nD) : CellTallies nD τ sig Unit := if j = c then 0 else TR c (sl c j) 1 + TR c (sl c j) 0

/-- Owed while the all-gather's half 1, its two halves, the reduce-scatter too, the barriers too are unpaid. -/
def OA1 : CellTallies nD τ sig Unit := ((0 + TA c 2 1) + TA c 1 1) + TA c 0 1
def OA : CellTallies nD τ sig Unit := ((OA1 c + TA c 2 0) + TA c 1 0) + TA c 0 0
def O₁ : CellTallies nD τ sig Unit := (((OA c + TC c 3) + TC c 2) + TC c 1) + TC c 0
def O₀ : CellTallies nD τ sig Unit := ((O₁ c + TB c 2) + TB c 1) + TB c 0

end Owes

/-! ## The levels -/

def L (g : GSem nD τ sig) : Finset Unit := if g.1.2 = .tc then {()} else ∅
def lv (g : GSem nD τ sig) (_ : Unit) : ℕ :=
  match kindOf g.2 with | some none => 1 | some (some d) => (if d.1 = 1 then 2 else if d.1 = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kindOf_bar]
theorem lv_xfer (c : Dev nD) (d : DK) : lv (dCell c d) () = if d.1 = 1 then 2 else if d.1 = 3 then 3 else 0 := by unfold lv; rw [kindOf_ds]

/-- All that `O` owes lies above level `n`. -/
def Above (n : ℕ) (O : CellTallies nD τ sig Unit) : Prop := ∀ (g : GSem nD τ sig) (u : Unit), 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') :=
  fun g u hg => (Pipeline.add_pos_cases hg).elim (h g u) (h' g u)
theorem above_tally {n k : ℕ} (c : Dev nD) (sm : SemLoc sig) (h : n < lv ((c : Thread nD τ), sm) ()) : Above n (tallyAt ((c : Thread nD τ), sm) () k) :=
  fun g u hg => by
    obtain ⟨rfl, rfl⟩ := Pipeline.tallyAt_pos hg
    exact ⟨by rw [L_tc]; exact Finset.mem_singleton_self _, h⟩

theorem above_TB {n : ℕ} (h : n < 1) (c : Dev nD) (k : Fin 3) : Above n (TB c k) := above_tally _ _ (by rw [lv_bar]; exact h)
theorem above_TR {n : ℕ} (h : n < 2) (c : Dev nD) (k : Fin 3) (s : Fin 2) : Above n (TR c k s) := above_tally _ _ (by rw [lv_xfer]; exact h)
theorem above_TA {n : ℕ} (h : n < 3) (c : Dev nD) (k : Fin 3) (s : Fin 2) : Above n (TA c k s) := above_tally _ _ (by rw [lv_xfer]; exact h)
theorem above_TC {n : ℕ} (h : n < 2) (c j : Dev nD) : Above n (TC c j) := by
  unfold TC; split
  · exact above_zero n
  · exact above_add (above_TR h _ _ _) (above_TR h _ _ _)
theorem above_OA1 {n : ℕ} (h : n < 3) (c : Dev nD) : Above n (OA1 c) :=
  above_add (above_add (above_add (above_zero n) (above_TA h _ _ _)) (above_TA h _ _ _)) (above_TA h _ _ _)
theorem above_OA {n : ℕ} (h : n < 3) (c : Dev nD) : Above n (OA c) :=
  above_add (above_add (above_add (above_OA1 h c) (above_TA h _ _ _)) (above_TA h _ _ _)) (above_TA h _ _ _)
theorem above_O₁ {n : ℕ} (h : n < 2) (c : Dev nD) : Above n (O₁ c) :=
  above_add (above_add (above_add (above_add (above_OA (by omega) c) (above_TC h _ _)) (above_TC h _ _)) (above_TC h _ _)) (above_TC h _ _)
theorem above_O₀ {n : ℕ} (h : n < 1) (c : Dev nD) : Above n (O₀ c) :=
  above_add (above_add (above_add (above_O₁ (by omega) c) (above_TB h _ _)) (above_TB h _ _)) (above_TB h _ _)

omit [FloatOps F] in
/-- A device may wait on a cell at level at most `n` while all it owes lies above `n`. -/
theorem mayWait (n : ℕ) (c : Dev nD) (sm : SemLoc sig) (O : CellTallies nD τ sig Unit)
    (hn : lv ((c : Thread nD τ), sm) () ≤ n) (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## The other devices, by number and by distance -/

section Around
variable (c : Dev nD)

omit [FloatOps F] in
theorem fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
/-- The four devices are `c` and those it sends to, -/
theorem around_nx (Φ : Fin 4 → sProp 𝕄) : bigSep Finset.univ Φ = iprop(Φ c ∗ bigSep Finset.univ fun k : Fin 3 => Φ (nx c k)) := by
  rw [fin3]
  exact bigSep_univ_eq_bigSepL [c, nx c 0, nx c 1, nx c 2] (by revert c; decide) (by revert c; decide) Φ
omit [FloatOps F] in
/-- or `c` and those that send to it. -/
theorem around_pv (Φ : Fin 4 → sProp 𝕄) : bigSep Finset.univ Φ = iprop(Φ c ∗ bigSep Finset.univ fun k : Fin 3 => Φ (pv c k)) := by
  rw [fin3]
  exact bigSep_univ_eq_bigSepL [c, pv c 0, pv c 1, pv c 2] (by revert c; decide) (by revert c; decide) Φ
omit [FloatOps F] in
/-- Slot by slot is device by device, but for `c`. -/
theorem slots_devs (Φ : Fin 3 → sProp 𝕄) : bigSep Finset.univ Φ = bigSep Finset.univ fun j : Fin 4 => if j = c then iprop(emp) else Φ (sl c j) := by
  rw [around_nx c, if_pos rfl]
  refine Eq.trans ?_ (emp_sep_eq _).symm
  exact bigSep_congr fun k _ => by rw [if_neg (nx_ne c k), sl_nx]

/-- The tally of the four chunks is the tally of the three slots. -/
theorem TC_sum : ((TC c 3 + TC c 2) + TC c 1) + TC c 0 = ((TR c 0 1 + TR c 0 0) + (TR c 1 1 + TR c 1 0)) + (TR c 2 1 + TR c 2 0) := by
  have h (G : Fin 3 → CellTallies nD τ sig Unit) (c : Dev nD) :
      (((if (3 : Fin 4) = c then 0 else G (sl c 3)) + (if (2 : Fin 4) = c then 0 else G (sl c 2))) + (if (1 : Fin 4) = c then 0 else G (sl c 1)))
        + (if (0 : Fin 4) = c then 0 else G (sl c 0)) = (G 0 + G 1) + G 2 := by
    have hc : c = 0 ∨ c = 1 ∨ c = 2 ∨ c = 3 := by revert c; decide
    rcases hc with rfl | rfl | rfl | rfl
    · show ((G 2 + G 1) + G 0) + (0 : CellTallies nD τ sig Unit) = _; abel
    · show ((G 1 + G 0) + (0 : CellTallies nD τ sig Unit)) + G 2 = _; abel
    · show ((G 0 + (0 : CellTallies nD τ sig Unit)) + G 2) + G 1 = _; abel
    · show (((0 : CellTallies nD τ sig Unit) + G 2) + G 1) + G 0 = _; abel
  exact h (fun k => TR c k 1 + TR c k 0) c

end Around

/-! ## The kernel's device numbers, conditions and offsets, in closed form -/

theorem dev1_eq (c : Dev nD) : (⟨k0_dev1 c, k0_dev1_lt c⟩ : Dev nD) = nx c 0 := by revert c; decide +kernel
theorem dev2_eq (c : Dev nD) : (⟨k0_dev2 c, k0_dev2_lt c⟩ : Dev nD) = nx c 1 := by revert c; decide +kernel
theorem dev3_eq (c : Dev nD) : (⟨k0_dev3 c, k0_dev3_lt c⟩ : Dev nD) = nx c 2 := by revert c; decide +kernel
theorem dev12_eq (c : Dev nD) : (⟨k0_dev12 c, k0_dev12_lt c⟩ : Dev nD) = nx c 0 := by revert c; decide +kernel
theorem dev13_eq (c : Dev nD) : (⟨k0_dev13 c, k0_dev13_lt c⟩ : Dev nD) = nx c 1 := by revert c; decide +kernel
theorem dev14_eq (c : Dev nD) : (⟨k0_dev14 c, k0_dev14_lt c⟩ : Dev nD) = nx c 2 := by revert c; decide +kernel
theorem dev15_eq (c : Dev nD) : (⟨k0_dev15 c, k0_dev15_lt c⟩ : Dev nD) = nx c 0 := by revert c; decide +kernel
theorem dev16_eq (c : Dev nD) : (⟨k0_dev16 c, k0_dev16_lt c⟩ : Dev nD) = nx c 1 := by revert c; decide +kernel
theorem dev17_eq (c : Dev nD) : (⟨k0_dev17 c, k0_dev17_lt c⟩ : Dev nD) = nx c 2 := by revert c; decide +kernel

/-- The kernel sends chunk `j` exactly if `j` is another device's. -/
theorem cond1_iff (c : Dev nD) : k0_cond1 c = 1#1 ↔ (0 : Fin 4) ≠ c := by revert c; decide +kernel
theorem cond2_iff (c : Dev nD) : k0_cond2 c = 1#1 ↔ (1 : Fin 4) ≠ c := by revert c; decide +kernel
theorem cond3_iff (c : Dev nD) : k0_cond3 c = 1#1 ↔ (2 : Fin 4) ≠ c := by revert c; decide +kernel
theorem cond4_iff (c : Dev nD) : k0_cond4 c = 1#1 ↔ (3 : Fin 4) ≠ c := by revert c; decide +kernel

/-! The offsets of the semaphore and of the landing slot, of half 0 and of half 1 of chunk `j` (`off(4 j + 1)` on). -/

theorem off1_eq (c : Dev nD) (h : (0 : Fin 4) ≠ c) : k0_off1 c = ![(sl c 0).val, 0] := by revert c; decide +kernel
theorem off2_eq (c : Dev nD) (h : (0 : Fin 4) ≠ c) : k0_off2 c = ![(sl c 0).val, 0, 0] := by revert c; decide +kernel
theorem off3_eq (c : Dev nD) (h : (0 : Fin 4) ≠ c) : k0_off3 c = ![(sl c 0).val, 1] := by revert c; decide +kernel
theorem off4_eq (c : Dev nD) (h : (0 : Fin 4) ≠ c) : k0_off4 c = ![(sl c 0).val, 256, 0] := by revert c; decide +kernel
theorem off5_eq (c : Dev nD) (h : (1 : Fin 4) ≠ c) : k0_off5 c = ![(sl c 1).val, 0] := by revert c; decide +kernel
theorem off6_eq (c : Dev nD) (h : (1 : Fin 4) ≠ c) : k0_off6 c = ![(sl c 1).val, 0, 0] := by revert c; decide +kernel
theorem off7_eq (c : Dev nD) (h : (1 : Fin 4) ≠ c) : k0_off7 c = ![(sl c 1).val, 1] := by revert c; decide +kernel
theorem off8_eq (c : Dev nD) (h : (1 : Fin 4) ≠ c) : k0_off8 c = ![(sl c 1).val, 256, 0] := by revert c; decide +kernel
theorem off9_eq (c : Dev nD) (h : (2 : Fin 4) ≠ c) : k0_off9 c = ![(sl c 2).val, 0] := by revert c; decide +kernel
theorem off10_eq (c : Dev nD) (h : (2 : Fin 4) ≠ c) : k0_off10 c = ![(sl c 2).val, 0, 0] := by revert c; decide +kernel
theorem off11_eq (c : Dev nD) (h : (2 : Fin 4) ≠ c) : k0_off11 c = ![(sl c 2).val, 1] := by revert c; decide +kernel
theorem off12_eq (c : Dev nD) (h : (2 : Fin 4) ≠ c) : k0_off12 c = ![(sl c 2).val, 256, 0] := by revert c; decide +kernel
theorem off13_eq (c : Dev nD) (h : (3 : Fin 4) ≠ c) : k0_off13 c = ![(sl c 3).val, 0] := by revert c; decide +kernel
theorem off14_eq (c : Dev nD) (h : (3 : Fin 4) ≠ c) : k0_off14 c = ![(sl c 3).val, 0, 0] := by revert c; decide +kernel
theorem off15_eq (c : Dev nD) (h : (3 : Fin 4) ≠ c) : k0_off15 c = ![(sl c 3).val, 1] := by revert c; decide +kernel
theorem off16_eq (c : Dev nD) (h : (3 : Fin 4) ≠ c) : k0_off16 c = ![(sl c 3).val, 256, 0] := by revert c; decide +kernel

/-- Where the sum landed through slot `k` goes in the result: the column chunk of its sender. -/
theorem off20_eq (c : Dev nD) (k : Fin 3) : k0_off20 c (BitVec.ofNat 32 (1 + k.val)) = ![0, 128 * (pv c k).val] := by revert c k; decide +kernel
theorem off21_eq (c : Dev nD) (k : Fin 3) : k0_off21 c (BitVec.ofNat 32 (1 + k.val)) = ![256, 128 * (pv c k).val] := by revert c k; decide +kernel

end Cert.Dispatch

end
-- ==== Proof.Steps.lean ====
/-
# One rule per effect of the kernel

Each rule takes the kernel's own operands, with the equations that say which chunk, slot, half, semaphore and device they
are, and moves the bundles of resources that the protocol hands around.
-/
module

public import proofs.«01_k».proof.Proof.Sched

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ)

/-! ## What every device may use at any time -/

/-- Every cell's invariant, under the names the launch allocated them at, and that every cell has reached round 0; -/
def records : sProp 𝕄 :=
  iprop((bigSep Finset.univ fun ck : Dev nD × CK => cellInv ER (sched m) (K ck) (kcell ck))
    ∗ bigSep Finset.univ fun ck : Dev nD × CK => reached ER (kcell ck) 0)
/-- the levels beside them. -/
def ctx : sProp 𝕄 := iprop(records m K ∗ levAts L lv)

instance records_persistent : BI.Persistent (records m K) := by unfold records; infer_instance
instance ctx_persistent : BI.Persistent (ctx m K) := by unfold ctx; infer_instance

theorem ctx_inv (ck : Dev nD × CK) : ctx m K ⊢ cellInv ER (sched m) (K ck) (kcell ck) := by
  unfold ctx records
  exact (BI.sep_and.trans BI.and_elimL).trans ((BI.sep_and.trans BI.and_elimL).trans
    (bigSep_elim (Φ := fun ck => (cellInv ER (sched m) (K ck) (kcell ck) : sProp 𝕄)) (Finset.mem_univ ck)))
theorem ctx_reached (ck : Dev nD × CK) : ctx m K ⊢ reached ER (kcell ck) 0 := by
  unfold ctx records
  exact (BI.sep_and.trans BI.and_elimL).trans ((BI.sep_and.trans BI.and_elimR).trans
    (bigSep_elim (Φ := fun ck => (reached ER (kcell ck) 0 : sProp 𝕄)) (Finset.mem_univ ck)))
theorem ctx_lev : ctx m K ⊢ levAts L lv := by unfold ctx; iintro ⟨-, H⟩; iexact H

/-! ## The bundles -/

section Bundles
variable (c : Dev nD)

/-- Device `c` owes `O`, whatever it waited on before. -/
def ow (O : CellTallies nD τ sig Unit) : sProp 𝕄 := iprop(∃ W, owes (c : Thread nD τ) O W)
/-- The credit and the position of a transfer cell of `c`, to wait on it with; -/
def wres (d : DK) : sProp 𝕄 := iprop(cred (tallyAt (dCell c d) () N) ∗ atPos ER (dCell c d) 0 ∅ 0)
/-- its position, the wait done. -/
def waited (d : DK) : sProp 𝕄 := atPos ER (dCell c d) 1 ∅ 0
/-- What the signal to the barrier of `nx c d` takes: its duty, and the landing slots that device will use. -/
def sigRes (d : Fin 3) : sProp 𝕄 := iprop(dutyTok ER (barCell (nx c d)) 0 d.rev ∗ landing c d.rev)
/-- What the reduce-scatter's transfer through slot `k` of half `s` takes; -/
def rsRes (k : Fin 3) (s : Fin 2) : sProp 𝕄 :=
  iprop(stP c (nx c k) s (stageAt m c) ∗ (∃ f, rcP (nx c k) k s f)
    ∗ dutyTok ER (dCell c (0, k, s)) 0 0 ∗ dutyTok ER (dCell (nx c k) (1, k, s)) 0 0 ∗ atPos ER (dCell c (0, k, s)) 0 ∅ 0)
/-- the all-gather's, beside the half sum that it sends. -/
def agRes (k : Fin 3) (s : Fin 2) : sProp 𝕄 :=
  iprop((∃ f, gcP (nx c k) k s f)
    ∗ dutyTok ER (dCell c (2, k, s)) 0 0 ∗ dutyTok ER (dCell (nx c k) (3, k, s)) 0 0 ∗ atPos ER (dCell c (2, k, s)) 0 ∅ 0)

/-- What the two transfers of chunk `j` take, from device `c` to `j` (none, if that is itself); -/
def sendRes (j : Dev nD) : sProp 𝕄 := if j = c then iprop(emp) else iprop(rsRes m c (sl c j) 0 ∗ rsRes m c (sl c j) 1)
/-- what they leave. -/
def sentRes (j : Dev nD) : sProp 𝕄 := if j = c then iprop(emp) else iprop(wres c (0, sl c j, 0) ∗ wres c (0, sl c j, 1))

end Bundles

/-! ## The kernel's operands -/

section Operands
variable {k : Fin 3} {s : Fin 2}

omit [FloatOps F] in
theorem stV_eq {j : Fin 4} {o : Fin 3 → ℕ} {h} (ho : o = ![j.val, 256 * s.val, 0]) :
    (stM.slice (Rect.unit (s := S4x512x128) o S1x256x128.size h) (fun _ => rfl)).squeeze S256x128 squeezes_S1x256x128_S256x128 = stV j s := by subst ho; rfl
omit [FloatOps F] in
theorem rcV_eq {o : Fin 3 → ℕ} {h} (ho : o = ![k.val, 256 * s.val, 0]) :
    (rcM.slice (Rect.unit (s := S3x512x128) o S1x256x128.size h) (fun _ => rfl)).squeeze S256x128 squeezes_S1x256x128_S256x128 = rcV k s := by subst ho; rfl
omit [FloatOps F] in
theorem sem_rsS {o : Fin 2 → ℕ} {h} (ho : o = ![k.val, s.val]) :
    ((cc0_scratch4.slice (Rect.unit (s := S3x2) o S1x1.size h)).squeeze S_ squeezes_S1x1_S_).sem = ds (0, k, s) := by subst ho; exact semAt_rsS k s
omit [FloatOps F] in
theorem sem_rsR {o : Fin 2 → ℕ} {h} (ho : o = ![k.val, s.val]) :
    ((cc0_scratch5.slice (Rect.unit (s := S3x2) o S1x1.size h)).squeeze S_ squeezes_S1x1_S_).sem = ds (1, k, s) := by subst ho; exact semAt_rsR k s

omit [FloatOps F] in
theorem gcV_eq {o : Fin 3 → ℕ} {h} (ho : o = ![k.val, 256 * s.val, 0]) :
    (gcM.slice (Rect.unit (s := S3x512x128) o S1x256x128.size h) (fun _ => rfl)).squeeze S256x128 squeezes_S1x256x128_S256x128 = gcV k s := by subst ho; rfl
omit [FloatOps F] in
theorem gsV_eq {o : Fin 2 → ℕ} {h} (ho : o = ![256 * s.val, 0]) :
    gsM.slice (Rect.unit (s := S512x128) o S256x128.size h) (fun _ => rfl) = gsV s := by subst ho; rfl
omit [FloatOps F] in
theorem sem_agS {o : Fin 2 → ℕ} {h} (ho : o = ![k.val, s.val]) :
    ((cc0_scratch6.slice (Rect.unit (s := S3x2) o S1x1.size h)).squeeze S_ squeezes_S1x1_S_).sem = ds (2, k, s) := by subst ho; exact semAt_agS k s
omit [FloatOps F] in
theorem sem_agR {o : Fin 2 → ℕ} {h} (ho : o = ![k.val, s.val]) :
    ((cc0_scratch7.slice (Rect.unit (s := S3x2) o S1x1.size h)).squeeze S_ squeezes_S1x1_S_).sem = ds (3, k, s) := by subst ho; exact semAt_agR k s

end Operands

/-! ## The rules -/

theorem mem_bar (c : Dev nD) (d : Fin 3) : d ∈ (sched m).duties (barCell c) 0 := by rw [duties_bar]; exact Finset.mem_univ _
theorem mem_xfer (c : Dev nD) (d : DK) : (0 : Fin 3) ∈ (sched m).duties (dCell c d) 0 := by rw [duties_xfer]; exact Finset.mem_singleton_self _
theorem need_bar (c : Dev nD) : 0 + 3 = (sched m).expect (barCell c) 0 := by rw [expect_bar]
theorem need_xfer (c : Dev nD) (d : DK) : 0 + N = (sched m).expect (dCell c d) 0 := by rw [expect_xfer, Nat.zero_add]
theorem sent_rsS (c : Dev nD) (k : Fin 3) (s : Fin 2) :
    ((stV (nx c k) s).view.loc (c : Thread nD τ) ↦[(stV (nx c k) s).view.set]{fullShare} stageAt m c) ⊢ (sched m).payload (dCell c (0, k, s)) 0 0 := by
  rw [payload_xfer, pay_rsS, stV_set]
theorem sent_rsR (c : Dev nD) (k : Fin 3) (s : Fin 2) (f) :
    ((rcV k s).view.loc (nx c k : Thread nD τ) ↦[(rcV k s).view.set]{fullShare}
        ((rcV k s).view.write (Elt F) f ((stV (nx c k) s).view.read (Elt F) (stageAt m c)) Finset.univ)) ⊢ (sched m).payload (dCell (nx c k) (1, k, s)) 0 0 := by
  rw [payload_xfer, pay_rsR, rcV_set]; exact Entails.of_eq (pointsTo_congr (rs_landed m c k s f))
theorem sent_agS (c : Dev nD) (k : Fin 3) (s : Fin 2) :
    ((gsV s).view.loc (c : Thread nD τ) ↦[(gsV s).view.set]{Ring.shares3 fullShare k} redC m c) ⊢ (sched m).payload (dCell c (2, k, s)) 0 0 := by
  rw [payload_xfer, pay_agS, gsV_set]
theorem sent_agR (c : Dev nD) (k : Fin 3) (s : Fin 2) (f) :
    ((gcV k s).view.loc (nx c k : Thread nD τ) ↦[(gcV k s).view.set]{fullShare}
        ((gcV k s).view.write (Elt F) f ((gsV s).view.read (Elt F) (redC m c)) Finset.univ)) ⊢ (sched m).payload (dCell (nx c k) (3, k, s)) 0 0 := by
  rw [payload_xfer, pay_agR, gcV_set]; exact Entails.of_eq (pointsTo_congr (ag_landed m c k s f))

section Rules
variable (c : Dev nD)

/-- A load of the rectangle at `off'`, from the elements of a buffer that include it. -/
theorem step_load {α : Type} {Q : α → sProp 𝕄} {sp : CoreSpace} {s : Shape} {e : EltTy} {mm : Memref sig .tc sp s e} {off off' size : Fin s.rank → ℕ} {h} {h'}
    {hl : mm.view.LoadsAt (Rect.unit (s := s) off size h).toLoadRect} {k : ((⟨s.rank, size⟩ : Shape).Idx → Elt F e) → Prog (TpuEff nD τ sig (Elt F) Λ₀ .tc) α}
    {S : Finset (Idx ((mm.access (Rect.unit (s := s) off' size h')).loc (c : Thread nD τ)))} {q : PosShare TreeShare} {f : Buf (Elt F) ((mm.access (Rect.unit (s := s) off' size h')).loc (c : Thread nD τ))}
    (hoff : off = off') (hS : (mm.access (Rect.unit (s := s) off' size h')).set ⊆ S)
    (v : (Rect.unit (s := s) off' size h').shape.Idx → Elt F e) (hv : (mm.access (Rect.unit (s := s) off' size h')).read (Elt F) f = v) :
    ((mm.access (Rect.unit (s := s) off' size h')).loc (c : Thread nD τ) ↦[S]{q} f)
      ⊢ iprop((((mm.access (Rect.unit (s := s) off' size h')).loc (c : Thread nD τ) ↦[S]{q} f) -∗ wp frame (wpE (defs₀ (F := F)) 𝒱₀ (c : Thread nD τ) none) Set.univ (k v) Q)
        -∗ wp frame (wpE (defs₀ (F := F)) 𝒱₀ (c : Thread nD τ) none) Set.univ (.op (.load mm (Rect.unit (s := s) off size h).toLoadRect hl) k) Q) := by
  subst hoff; subst hv
  exact wp_load_rect 𝒱₀ (c : Thread nD τ) none Set.univ (m := mm) hS

/-- A store to the rectangle at `off'`, of elements held: they then hold `g`. -/
theorem step_store {α : Type} {Q : α → sProp 𝕄} {sp : CoreSpace} {s : Shape} {e : EltTy} {mm : Memref sig .tc sp s e} {off off' size : Fin s.rank → ℕ} {h} {h'}
    {w : (⟨s.rank, size⟩ : Shape).Idx → Elt F e} {hx : (mm.access (Rect.unit (s := s) off size h)).Stores Finset.univ} {hm}
    {k : PUnit → Prog (TpuEff nD τ sig (Elt F) Λ₀ .tc) α}
    {S : Finset (Idx ((mm.access (Rect.unit (s := s) off' size h')).loc (c : Thread nD τ)))} {f : Buf (Elt F) ((mm.access (Rect.unit (s := s) off' size h')).loc (c : Thread nD τ))}
    (hoff : off = off') (hS : (mm.access (Rect.unit (s := s) off' size h')).set ⊆ S) (g : Buf (Elt F) ((mm.access (Rect.unit (s := s) off' size h')).loc (c : Thread nD τ)))
    (w' : (⟨s.rank, size⟩ : Shape).Idx → Elt F e) (hw : w = w')
    (hg : ∀ i ∈ S, (mm.access (Rect.unit (s := s) off' size h')).write (Elt F) f w' Finset.univ i = g i) :
    ((mm.access (Rect.unit (s := s) off' size h')).loc (c : Thread nD τ) ↦[S]{fullShare} f)
      ⊢ iprop((((mm.access (Rect.unit (s := s) off' size h')).loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store mm (Rect.unit (s := s) off size h) w Finset.univ hx hm) k) Q) := by
  subst hoff; subst hw
  rw [← pointsTo_congr hg]
  exact wp_store 𝒱₀ (c : Thread nD τ) none Set.univ (m := mm) (Mk := Finset.univ) hS

/-- The signal to the barrier of `nx c d`. -/
theorem step_signal {α : Type} {Q : α → sProp 𝕄} (d : Fin 3) {n : Dev nD} {kk : ℕ} (hn : n = nx c d) (hkk : kk = 1) {k : PUnit → Prog (TpuEff nD τ sig (Elt F) Λ₀ .tc) α}
    {O : CellTallies nD τ sig Unit} (O' : CellTallies nD τ sig Unit) (hO : O = O' + TB c d) :
    iprop(ctx m K ∗ ow c O ∗ sigRes c d)
      ⊢ iprop((ow c O' -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS kk) k) Q) := by
  subst hn; subst hkk
  unfold ow sigRes
  iintro ⟨#Hc, ⟨%W, HO⟩, Ht, Hl⟩ Hk
  iapply (Rounds.wp_signal 𝒱₀ ER (sched m) (c : Thread nD τ) none (dst := (nx c d : Thread nD τ)) (κ := K (nx c d, none))
      (d := d.rev) (mem_bar m (nx c d) d.rev) (amount_bar m (nx c d) d.rev) () O' hO) $$ [HO Ht Hl]
  · isplitr; · iapply (ctx_inv m K (nx c d, none)); iexact Hc
    isplitl [HO]; · iexact HO
    isplitl [Ht]; · iexact Ht
    isplitl [Hl]
    · rw [payload_bar, show nx (nx c d) d.rev = c from pv_nx c d]; iexact Hl
    iapply (ctx_reached m K (nx c d, none)); iexact Hc
  iintro HO
  iapply Hk; iexists W; iexact HO

/-- The wait for all three signals on the own barrier: the landing slots of the three others. -/
theorem step_bar {α : Type} {Q : α → sProp 𝕄} {kk : ℕ} (hkk : kk = 3) {k : PUnit → Prog (TpuEff nD τ sig (Elt F) Λ₀ .tc) α} {O : CellTallies nD τ sig Unit} (hO : Above 1 O) :
    iprop(ctx m K ∗ ow c O ∗ cred (tallyAt (barCell c) () 3) ∗ atPos ER (barCell c) 0 ∅ 0)
      ⊢ iprop(((ow c O ∗ atPos ER (barCell c) 1 ∅ 0 ∗ bigSep Finset.univ fun k : Fin 3 => landing (nx c k) k)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS kk) k) Q) := by
  subst hkk
  unfold ow
  iintro ⟨#Hc, ⟨%W, HO⟩, Hcr, Hat⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (need_bar m c)) $$ [HO Hcr Hat]
  · isplitr; · iapply (ctx_inv m K (c, none)); iexact Hc
    isplitl [Hcr]; · iexact Hcr
    isplitl [HO]; · iexact HO
    isplitr; · iapply (mayWait (F := F) 1 c (.reg barS) O (by rw [lv_bar]) hO); iapply (ctx_lev m K); iexact Hc
    iexact Hat
  rw [rest_bar]
  iintro ⟨HO, Hat, -, Hp⟩
  iapply Hk
  isplitl [HO]; · iexists _; iexact HO
  isplitl [Hat] <;> iassumption

/-- The wait on a transfer cell `d` of `c`: what it hands over. -/
theorem step_wait {α : Type} {Q : α → sProp 𝕄} (d : DK) {sm : DmaSem sig} (hsm : sm = ds d) {sp sp' : Space} {s s' : Shape} {e e' : EltTy}
    {src : Memref sig .tc sp' s' e'} {dst : Memref sig .tc sp s e} {hsrc : src.view.WordExact} {hdst : dst.view.WordExact}
    (hN : dst.view.dmaCredit = N) {k : PUnit → Prog (TpuEff nD τ sig (Elt F) Λ₀ .tc) α}
    {O : CellTallies nD τ sig Unit} (hO : Above (lv (dCell c d) ()) O) :
    iprop(ctx m K ∗ ow c O ∗ wres c d)
      ⊢ iprop(((ow c O ∗ waited c d ∗ xferPay m c d) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  unfold ow wres waited
  iintro ⟨#Hc, ⟨%W, HO⟩, Hcr, Hat⟩ Hk
  iapply (Rounds.wp_wait_rest_token 𝒱₀ ER (sched m) (c : Thread nD τ) none (κ := K (c, some d)) (k' := N)
      (fun K' => (wpE_waitDma2_eq 𝒱₀ (c : Thread nD τ) none Set.univ K').trans (by rw [hN])) (Set.mem_univ _) () (O := O) (W := W) (R := 0) (m := 0) (T := ∅)
      (need_xfer m c d)) $$ [HO Hcr Hat]
  · isplitr; · iapply (ctx_inv m K (c, some d)); iexact Hc
    isplitl [Hcr]; · iexact Hcr
    isplitl [HO]; · iexact HO
    isplitr; · iapply (mayWait (F := F) _ c (.dma (ds d)) O (le_refl _) hO); iapply (ctx_lev m K); iexact Hc
    iexact Hat
  rw [rest_xfer]
  iintro ⟨HO, Hat, -, Hp⟩
  iapply Hk
  isplitl [HO]; · iexists _; iexact HO
  isplitl [Hat] <;> iassumption

/-- The reduce-scatter's transfer of half `s` of chunk `j = nx c k` through slot `k`. -/
theorem step_rs {α : Type} {Q : α → sProp 𝕄} (k : Fin 3) (s : Fin 2) {j n : Dev nD} (hk : nx c k = j) (hn : n = j)
    {src dst : Memref sig .tc .vmem S256x128 .bf16} {sS sR : DmaSem sig} (hsrcE : src = stV j s) (hdstE : dst = rcV k s)
    (hS : sS = ds (0, k, s)) (hR : sR = ds (1, k, s))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {O : CellTallies nD τ sig Unit} (O' : CellTallies nD τ sig Unit) (hO : O = O' + TR c k s) :
    iprop(ctx m K ∗ ow c O ∗ rsRes m c k s)
      ⊢ iprop(((ow c O' ∗ wres c (0, k, s)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kk) Q) := by
  subst hk; subst hn; subst hsrcE; subst hdstE; subst hS; subst hR
  unfold ow rsRes wres
  iintro ⟨#Hc, ⟨%W, HO⟩, Hs, ⟨%f, Hd⟩, HtS, HtR, Hat⟩ Hk
  iapply (Rounds.wp_send_pointsTo 𝒱₀ ER (sched m) (c : Thread nD τ) none (κ₁ := K (c, some (0, k, s))) (κ₂ := K (nx c k, some (1, k, s)))
      (c' := (nx c k : Thread nD τ)) (src := stV (nx c k) s) (dst := rcV k s) (r₁ := 0) (r₂ := 0) (d₁ := 0) (d₂ := 0) (fs := stageAt m c) (fd := f)
      (mem_xfer m c (0, k, s)) (mem_xfer m (nx c k) (1, k, s))
      () () N rfl (amount_xfer m c (0, k, s) 0) (amount_xfer m (nx c k) (1, k, s) 0) O' hO (W := W)
      (sent_rsS m c k s) (sent_rsR m c k s f)) $$ [HO Hs Hd HtS HtR]
  · isplitr; · iapply (ctx_inv m K (c, some (0, k, s))); iexact Hc
    isplitr; · iapply (ctx_inv m K (nx c k, some (1, k, s))); iexact Hc
    isplitl [Hs]; · rw [stV_set]; iexact Hs
    isplitl [Hd]; · rw [rcV_set]; iexact Hd
    isplitl [HO]; · iexact HO
    isplitl [HtS]; · iexact HtS
    isplitr; · iapply (ctx_reached m K (c, some (0, k, s))); iexact Hc
    isplitl [HtR]; · iexact HtR
    iapply (ctx_reached m K (nx c k, some (1, k, s))); iexact Hc
  iintro ⟨Hcr, HO⟩
  iapply Hk
  isplitl [HO]; · iexists W; iexact HO
  isplitl [Hcr] <;> iassumption

/-- The all-gather's transfer of half `s` of the sum through slot `k`, of a third of it. -/
theorem step_ag {α : Type} {Q : α → sProp 𝕄} (k : Fin 3) (s : Fin 2) {n : Dev nD} (hn : n = nx c k)
    {src dst : Memref sig .tc .vmem S256x128 .bf16} {sS sR : DmaSem sig} (hsrcE : src = gsV s) (hdstE : dst = gcV k s)
    (hS : sS = ds (2, k, s)) (hR : sR = ds (3, k, s))
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {O : CellTallies nD τ sig Unit} (O' : CellTallies nD τ sig Unit) (hO : O = O' + TA c k s) :
    iprop(ctx m K ∗ ow c O ∗ gsP c (Ring.shares3 fullShare k) s (redC m c) ∗ agRes c k s)
      ⊢ iprop(((ow c O' ∗ wres c (2, k, s)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) kk) Q) := by
  subst hn; subst hsrcE; subst hdstE; subst hS; subst hR
  unfold ow agRes wres
  iintro ⟨#Hc, ⟨%W, HO⟩, Hs, ⟨%f, Hd⟩, HtS, HtR, Hat⟩ Hk
  iapply (Rounds.wp_send_pointsTo 𝒱₀ ER (sched m) (c : Thread nD τ) none (κ₁ := K (c, some (2, k, s))) (κ₂ := K (nx c k, some (3, k, s)))
      (c' := (nx c k : Thread nD τ)) (src := gsV s) (dst := gcV k s) (r₁ := 0) (r₂ := 0) (d₁ := 0) (d₂ := 0) (q := Ring.shares3 fullShare k) (fs := redC m c) (fd := f)
      (mem_xfer m c (2, k, s)) (mem_xfer m (nx c k) (3, k, s))
      () () N rfl (amount_xfer m c (2, k, s) 0) (amount_xfer m (nx c k) (3, k, s) 0) O' hO (W := W)
      (sent_agS m c k s) (sent_agR m c k s f)) $$ [HO Hs Hd HtS HtR]
  · isplitr; · iapply (ctx_inv m K (c, some (2, k, s))); iexact Hc
    isplitr; · iapply (ctx_inv m K (nx c k, some (3, k, s))); iexact Hc
    isplitl [Hs]; · rw [gsV_set]; iexact Hs
    isplitl [Hd]; · rw [gcV_set]; iexact Hd
    isplitl [HO]; · iexact HO
    isplitl [HtS]; · iexact HtS
    isplitr; · iapply (ctx_reached m K (c, some (2, k, s))); iexact Hc
    isplitl [HtR]; · iexact HtR
    iapply (ctx_reached m K (nx c k, some (3, k, s))); iexact Hc
  iintro ⟨Hcr, HO⟩
  iapply Hk
  isplitl [HO]; · iexists W; iexact HO
  isplitl [Hcr] <;> iassumption

/-- The two transfers of chunk `j`, under the kernel's condition that `j` is another device. -/
theorem step_sends {α : Type} {Q : α → sProp 𝕄} {cond : Prop} [Decidable cond] (j : Dev nD) (hc : cond ↔ j ≠ c) {kk : Prog (TpuEff nD τ sig (Elt F) Λ₀ .tc) α} {O' : CellTallies nD τ sig Unit}
    {src src' dst dst' : cond → Memref sig .tc .vmem S256x128 .bf16} {n n' : cond → Dev nD} {sS sR sS' sR' : cond → DmaSem sig}
    (hn : ∀ h, n h = j) (hn' : ∀ h, n' h = j) (hsrc : ∀ h, src h = stV j 0) (hsrc' : ∀ h, src' h = stV j 1)
    (hdst : ∀ h, dst h = rcV (sl c j) 0) (hdst' : ∀ h, dst' h = rcV (sl c j) 1)
    (hS : ∀ h, sS h = ds (0, sl c j, 0)) (hS' : ∀ h, sS' h = ds (0, sl c j, 1)) (hR : ∀ h, sR h = ds (1, sl c j, 0)) (hR' : ∀ h, sR' h = ds (1, sl c j, 1))
    {hsc : ∀ h, (dst h).view.ref.isScScratch = false} {hw : ∀ h, (src h).view.WordExact} {hv : ∀ h, (dst h).view.WordExact}
    {ht : ∀ h, DmaTarget.Typed .vmem (.dma (sR h)) (.remote (Dev.tc (n h) : Thread nD τ) (dst h) (.dma (sS h)) (hsc h))}
    {hsc' : ∀ h, (dst' h).view.ref.isScScratch = false} {hw' : ∀ h, (src' h).view.WordExact} {hv' : ∀ h, (dst' h).view.WordExact}
    {ht' : ∀ h, DmaTarget.Typed .vmem (.dma (sR' h)) (.remote (Dev.tc (n' h) : Thread nD τ) (dst' h) (.dma (sS' h)) (hsc' h))} :
    iprop(ctx m K ∗ ow c (O' + TC c j) ∗ sendRes m c j)
      ⊢ iprop(((ow c O' ∗ sentRes c j) -∗ wp frame (wpE (defs₀ (F := F)) 𝒱₀ (c : Thread nD τ) none) Set.univ kk Q)
        -∗ wp frame (wpE (defs₀ (F := F)) 𝒱₀ (c : Thread nD τ) none) Set.univ
            (if h : cond then .op (.enqueueDma (src h) (.remote (Dev.tc (n h) : Thread nD τ) (dst h) (.dma (sS h)) (hsc h)) (.dma (sR h)) (hw h) (hv h) (ht h)) fun _ =>
                .op (.enqueueDma (src' h) (.remote (Dev.tc (n' h) : Thread nD τ) (dst' h) (.dma (sS' h)) (hsc' h)) (.dma (sR' h)) (hw' h) (hv' h) (ht' h)) fun _ => kk
              else kk) Q) := by
  unfold sendRes sentRes TC
  by_cases h : j = c
  · rw [dif_neg (fun hh => hc.mp hh h), if_pos h, if_pos h, if_pos h, add_zero]
    iintro ⟨-, HO, -⟩ Hk
    iapply Hk; isplitl [HO]; · iexact HO
    iempintro
  · rw [dif_pos (hc.mpr h), if_neg h, if_neg h, if_neg h, ← add_assoc]
    iintro ⟨#Hc, HO, H0, H1⟩ Hk
    iapply (step_rs m K c (sl c j) 0 (nx_sl h) (hn _) (hsrc _) (hdst _) (hS _) (hR _) (O' + TR c (sl c j) 1) rfl) $$ [HO H0]
    · isplitr; · iexact Hc
      isplitl [HO] <;> iassumption
    iintro ⟨HO, H0⟩
    iapply (step_rs m K c (sl c j) 1 (nx_sl h) (hn' _) (hsrc' _) (hdst' _) (hS' _) (hR' _) O' rfl) $$ [HO H1]
    · isplitr; · iexact Hc
      isplitl [HO] <;> iassumption
    iintro ⟨HO, H1⟩
    iapply Hk; isplitl [HO]; · iexact HO
    isplitl [H0] <;> iassumption

end Rules

end Cert.Dispatch

end
-- ==== Proof.Loads.lean ====
/-
# The loads and stores of the kernel, one rule per buffer

Each rule takes the kernel's own offsets, with the equation that says which chunk, slot or half they are.
-/
module

public import proofs.«01_k».proof.Proof.Steps

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Loads and stores, by buffer -/

/-- The elements of a rectangle of a whole buffer. -/
theorem acc_sub {b : Ref sig .tc} (r : Rect b.ty.shape) : ((Memref.whole b).access r).set ⊆ r.set := (View.set_slice_whole b r).subset

section Buffers
variable (c : Dev nD)

/-- The weakest precondition of a program of device `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev xP : sProp 𝕄 := ((c : Thread nD τ).loc cc0_stg0_0) ↦{fullShare} xstg m c
abbrev rP : sProp 𝕄 := ((c : Thread nD τ).loc cc0_stg1_0) ↦{fullShare} rstg m c
abbrev wP : sProp 𝕄 := ((c : Thread nD τ).loc cc0_stg2_0) ↦{fullShare} wstg m c

theorem load_x {α : Type} {Q : α → sProp 𝕄} {o : Fin 2 → ℕ} {h} {hl : xM.view.LoadsAt (Rect.unit (s := S512x256) o S512x256.size h).toLoadRect}
    {k : Vec F S512x256 .bf16 → Prog (TpuEff nD τ sig (Elt F) Λ₀ .tc) α} (ho : o = ![0, 0]) :
    xP m c ⊢ iprop((xP m c -∗ wpc c (k (xstg m c)) Q) -∗ wpc c (.op (.load xM (Rect.unit (s := S512x256) o S512x256.size h).toLoadRect hl) k) Q) :=
  step_load c (mm := xM) (h' := inb_S512x256_S512x256_0_0) ho (Finset.subset_univ _) (xstg m c)
    (Memref.readAt_unit_zero (Elt F) cc0_stg0_0 (by decide) _ _)
theorem load_r {α : Type} {Q : α → sProp 𝕄} {o : Fin 2 → ℕ} {h} {hl : rM.view.LoadsAt (Rect.unit (s := S512x1) o S512x1.size h).toLoadRect}
    {k : Vec F S512x1 .i32 → Prog (TpuEff nD τ sig (Elt F) Λ₀ .tc) α} (ho : o = ![0, 0]) :
    rP m c ⊢ iprop((rP m c -∗ wpc c (k (rstg m c)) Q) -∗ wpc c (.op (.load rM (Rect.unit (s := S512x1) o S512x1.size h).toLoadRect hl) k) Q) :=
  step_load c (mm := rM) (h' := inb_S512x1_S512x1_0_0) ho (Finset.subset_univ _) (rstg m c)
    (Memref.readAt_unit_zero (Elt F) cc0_stg1_0 (by decide) _ _)
/-- Expert `e`'s columns for chunk `j`. -/
theorem load_w {α : Type} {Q : α → sProp 𝕄} (e : Fin 2) (j : Fin 4) {o : Fin 3 → ℕ} {h} {hl : wM.view.LoadsAt (Rect.unit (s := S2x256x512) o S1x256x128.size h).toLoadRect}
    {k : Vec F S1x256x128 .bf16 → Prog (TpuEff nD τ sig (Elt F) Λ₀ .tc) α} (ho : o = ![e.val, 0, 128 * j.val]) :
    wP m c ⊢ iprop((wP m c -∗ wpc c (k (wld m c e j)) Q) -∗ wpc c (.op (.load wM (Rect.unit (s := S2x256x512) o S1x256x128.size h).toLoadRect hl) k) Q) :=
  step_load c (mm := wM) (h' := wBlk_inb e j) ho (Finset.subset_univ _) (wld m c e j) rfl

theorem load_chunk {α : Type} {Q : α → sProp 𝕄} (j : Fin 4) (f) {o : Fin 3 → ℕ} {h} {hl : stM.view.LoadsAt (Rect.unit (s := S4x512x128) o S1x512x128.size h).toLoadRect}
    {k : Vec F S1x512x128 .bf16 → Prog (TpuEff nD τ sig (Elt F) Λ₀ .tc) α} (ho : o = ![j.val, 0, 0]) :
    chP c j f ⊢ iprop((chP c j f -∗ wpc c (k (fun y => f ((stWhole j).emb y))) Q)
      -∗ wpc c (.op (.load stM (Rect.unit (s := S4x512x128) o S1x512x128.size h).toLoadRect hl) k) Q) :=
  step_load c (mm := stM) (h' := stWhole_inb j) ho (acc_sub _) _ rfl
/-- The device's own chunk, stored before. -/
theorem load_own {α : Type} {Q : α → sProp 𝕄} {o : Fin 3 → ℕ} {h} {hl : stM.view.LoadsAt (Rect.unit (s := S4x512x128) o S1x512x128.size h).toLoadRect}
    {k : Vec F S1x512x128 .bf16 → Prog (TpuEff nD τ sig (Elt F) Λ₀ .tc) α} (ho : o = ![c.val, 0, 0]) :
    chP c c (stageAt m c) ⊢ iprop((chP c c (stageAt m c) -∗ wpc c (k (ownL m c)) Q)
      -∗ wpc c (.op (.load stM (Rect.unit (s := S4x512x128) o S1x512x128.size h).toLoadRect hl) k) Q) :=
  step_load c (mm := stM) (h' := stWhole_inb c) ho (acc_sub _) (ownL m c) rfl
theorem store_chunk {α : Type} {Q : α → sProp 𝕄} (j : Fin 4) (f) {o : Fin 3 → ℕ} {h} {w : Vec F S1x512x128 .bf16}
    {hx : (stM.access (Rect.unit (s := S4x512x128) o S1x512x128.size h)).Stores Finset.univ} {hm}
    {k : PUnit → Prog (TpuEff nD τ sig (Elt F) Λ₀ .tc) α} (ho : o = ![j.val, 0, 0]) (hw : w = chunkAt m c j) :
    chP c j f ⊢ iprop((chP c j (stageAt m c) -∗ wpc c (k ⟨⟩) Q)
      -∗ wpc c (.op (.store stM (Rect.unit (s := S4x512x128) o S1x512x128.size h) w Finset.univ hx hm) k) Q) :=
  step_store c (mm := stM) (h' := stWhole_inb j) ho (acc_sub _) (stageAt m c) _ hw (st_stored m c j f)

theorem load_rc {α : Type} {Q : α → sProp 𝕄} (p : Fin 3) (s : Fin 2) {o : Fin 3 → ℕ} {h} {hl : rcM.view.LoadsAt (Rect.unit (s := S3x512x128) o S1x256x128.size h).toLoadRect}
    {k : Vec F S1x256x128 .bf16 → Prog (TpuEff nD τ sig (Elt F) Λ₀ .tc) α} (ho : o = ![p.val, 256 * s.val, 0]) :
    rcP c p s (rsC m c) ⊢ iprop((rcP c p s (rsC m c) -∗ wpc c (k (rsL m c p s)) Q)
      -∗ wpc c (.op (.load rcM (Rect.unit (s := S3x512x128) o S1x256x128.size h).toLoadRect hl) k) Q) :=
  step_load c (mm := rcM) (h' := cmPiece_inb p s) ho (acc_sub _) _ rfl
theorem load_gc {α : Type} {Q : α → sProp 𝕄} (p : Fin 3) (s : Fin 2) {o : Fin 3 → ℕ} {h} {hl : gcM.view.LoadsAt (Rect.unit (s := S3x512x128) o S1x256x128.size h).toLoadRect}
    {k : Vec F S1x256x128 .bf16 → Prog (TpuEff nD τ sig (Elt F) Λ₀ .tc) α} (ho : o = ![p.val, 256 * s.val, 0]) :
    gcP c p s (agC m c) ⊢ iprop((gcP c p s (agC m c) -∗ wpc c (k (agL m c p s)) Q)
      -∗ wpc c (.op (.load gcM (Rect.unit (s := S3x512x128) o S1x256x128.size h).toLoadRect hl) k) Q) :=
  step_load c (mm := gcM) (h' := cmPiece_inb p s) ho (acc_sub _) _ rfl

theorem load_gs {α : Type} {Q : α → sProp 𝕄} (s : Fin 2) (f) {o : Fin 2 → ℕ} {h} {hl : gsM.view.LoadsAt (Rect.unit (s := S512x128) o S256x128.size h).toLoadRect}
    {k : Vec F S256x128 .bf16 → Prog (TpuEff nD τ sig (Elt F) Λ₀ .tc) α} (ho : o = ![256 * s.val, 0]) :
    gsP c fullShare s f ⊢ iprop((gsP c fullShare s f -∗ wpc c (k (fun y => f ((gsHalf s).emb y))) Q)
      -∗ wpc c (.op (.load gsM (Rect.unit (s := S512x128) o S256x128.size h).toLoadRect hl) k) Q) :=
  step_load c (mm := gsM) (h' := gsHalf_inb s) ho (acc_sub _) _ rfl
theorem store_gs {α : Type} {Q : α → sProp 𝕄} (s : Fin 2) (f) {o : Fin 2 → ℕ} {h} {w : Vec F S256x128 .bf16}
    {hx : (gsM.access (Rect.unit (s := S512x128) o S256x128.size h)).Stores Finset.univ} {hm}
    {k : PUnit → Prog (TpuEff nD τ sig (Elt F) Λ₀ .tc) α} (ho : o = ![256 * s.val, 0]) (hw : w = redH m c s) :
    gsP c fullShare s f ⊢ iprop((gsP c fullShare s (redC m c) -∗ wpc c (k ⟨⟩) Q)
      -∗ wpc c (.op (.store gsM (Rect.unit (s := S512x128) o S256x128.size h) w Finset.univ hx hm) k) Q) :=
  step_store c (mm := gsM) (h' := gsHalf_inb s) ho (acc_sub _) (redC m c) _ hw (gs_stored m c s f)

theorem load_out {α : Type} {Q : α → sProp 𝕄} (j : Fin 4) (s : Fin 2) (f) {o : Fin 2 → ℕ} {h} {hl : oM.view.LoadsAt (Rect.unit (s := S512x512) o S256x128.size h).toLoadRect}
    {k : Vec F S256x128 .bf16 → Prog (TpuEff nD τ sig (Elt F) Λ₀ .tc) α} (ho : o = ![256 * s.val, 128 * j.val]) :
    outP c j s f ⊢ iprop((outP c j s f -∗ wpc c (k (fun y => f ((outPiece j s).emb y))) Q)
      -∗ wpc c (.op (.load oM (Rect.unit (s := S512x512) o S256x128.size h).toLoadRect hl) k) Q) :=
  step_load c (mm := oM) (h' := outPiece_inb j s) ho (acc_sub _) _ rfl
theorem store_out {α : Type} {Q : α → sProp 𝕄} (j : Fin 4) (s : Fin 2) (f) {o : Fin 2 → ℕ} {h} {w : Vec F S256x128 .bf16}
    {hx : (oM.access (Rect.unit (s := S512x512) o S256x128.size h)).Stores Finset.univ} {hm}
    {k : PUnit → Prog (TpuEff nD τ sig (Elt F) Λ₀ .tc) α} (ho : o = ![256 * s.val, 128 * j.val]) (hw : w = redH m j s) :
    outP c j s f ⊢ iprop((outP c j s (outC m) -∗ wpc c (k ⟨⟩) Q)
      -∗ wpc c (.op (.store oM (Rect.unit (s := S512x512) o S256x128.size h) w Finset.univ hx hm) k) Q) :=
  step_store c (mm := oM) (h' := outPiece_inb j s) ho (acc_sub _) (outC m) _ hw (out_stored m j s f)

end Buffers

end Cert.Dispatch

end
-- ==== Proof.Body.lean ====
/-
# The body, part by part

What each of the body's parts does to the resources, in program order: a part is stated with what it needs and, as a
continuation, what it leaves.
-/
module

public import proofs.«01_k».proof.Proof.Loads

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- A part of the body, at the kernel's own buffers and semaphores. -/
abbrev at'.{u} {β : Sort u} (p : ∀ (arg0 : Memref sig .tc .vmem S512x256 .bf16) (harg0 : arg0.IsWhole) (arg1 : Memref sig .tc .vmem S512x1 .i32) (harg1 : arg1.IsWhole) (arg2 : Memref sig .tc .vmem S2x256x512 .bf16) (harg2 : arg2.IsWhole) (arg3 : Memref sig .tc .vmem S512x512 .bf16) (harg3 : arg3.IsWhole) (arg4 : Memref sig .tc .vmem S4x512x128 .bf16) (harg4 : arg4.IsWhole) (arg5 : Memref sig .tc .vmem S3x512x128 .bf16) (harg5 : arg5.IsWhole) (arg6 : Memref sig .tc .vmem S512x128 .bf16) (harg6 : arg6.IsWhole) (arg7 : Memref sig .tc .vmem S3x512x128 .bf16) (harg7 : arg7.IsWhole) (arg8 : DmaSems sig S3x2) (arg9 : DmaSems sig S3x2) (arg10 : DmaSems sig S3x2) (arg11 : DmaSems sig S3x2), β) : β :=
  p xM (Memref.isWhole_whole _) rM (Memref.isWhole_whole _) wM (Memref.isWhole_whole _) oM (Memref.isWhole_whole _)
    stM (Memref.isWhole_whole _) rcM (Memref.isWhole_whole _) gsM (Memref.isWhole_whole _) gcM (Memref.isWhole_whole _)
    cc0_scratch4 cc0_scratch5 cc0_scratch6 cc0_scratch7

section Parts
variable (c : Dev nD)

theorem wpc_ret {α : Type} {Q : α → sProp 𝕄} (a : α) : Q a ⊢ wpc c (Prog.ret a) Q := by
  unfold wpc; rw [wp_ret]; iintro H; imodintro; iexact H

theorem part1 {Q : _ → sProp 𝕄} :
    iprop((ctx m K ∗ ow c (O₀ c) ∗ sigRes c 0 ∗ sigRes c 1)
        ∗ (∀ a b d, ow c (O₁ c + TB c 2) -∗ Q ⟨c, pos c, SemArray.scalar (sig.barrier 0 rfl), a, b, d⟩))
      ⊢ wpc c (at' (k0_part1 (F := F))) Q := by
  simp only [at', k0_part1_eq_skeleton]; unfold k0_part1_skel
  simp only [semSignalWord, Prog.lift, Prog.bind_op, Prog.bind_ret, Prog.pure_eq_ret, wp_deviceId]
  iintro ⟨⟨#Hc, HO, H0, H1⟩, Hk⟩
  iapply (step_signal m K c 0 (dev1_eq c) (by decide) ((O₁ c + TB c 2) + TB c 1) rfl) $$ [HO H0]
  · isplitr; · iexact Hc
    isplitl [HO]; · iexact HO
    iexact H0
  iintro HO
  iapply (step_signal m K c 1 (dev2_eq c) (by decide) (O₁ c + TB c 2) rfl) $$ [HO H1]
  · isplitr; · iexact Hc
    isplitl [HO]; · iexact HO
    iexact H1
  iintro HO
  iapply (wpc_ret c)
  iapply Hk $$ HO

theorem part2 {Q : _ → sProp 𝕄} {a b d} :
    iprop((ctx m K ∗ ow c (O₁ c + TB c 2) ∗ sigRes c 2 ∗ rP m c ∗ xP m c ∗ wP m c)
        ∗ ((ow c (O₁ c) ∗ rP m c ∗ xP m c ∗ wP m c) -∗ Q ⟨k0_pay3 (pos c) (rstg m c) (xstg m c), k0_pay4 (pos c) (rstg m c) (xstg m c),
            k0_pay5 (F := F), k0_pay6 (pos c) (rstg m c) (xstg m c) (wld m c 0 0)⟩))
      ⊢ wpc c (at' (k0_part2 (F := F)) c (pos c) (SemArray.scalar (sig.barrier 0 rfl)) a b d) Q := by
  simp only [at', k0_part2_eq_skeleton]; unfold k0_part2_skel
  simp only [semSignalWord, Prog.lift, Prog.bind_op, Prog.bind_ret, Prog.pure_eq_ret]
  iintro ⟨⟨#Hc, HO, H2, Hr, Hx, Hw⟩, Hk⟩
  iapply (step_signal m K c 2 (dev3_eq c) (by decide) (O₁ c) rfl) $$ [HO H2]
  · isplitr; · iexact Hc
    isplitl [HO]; · iexact HO
    iexact H2
  iintro HO
  iapply (load_r m c rfl) $$ Hr; iintro Hr
  iapply (load_x m c rfl) $$ Hx; iintro Hx
  iapply (load_w m c 0 0 rfl) $$ Hw; iintro Hw
  iapply (wpc_ret c)
  iapply Hk; isplitl [HO]; · iexact HO
  isplitl [Hr]; · iexact Hr
  isplitl [Hx] <;> iassumption

theorem part3 {Q : _ → sProp 𝕄} (f g) :
    iprop((wP m c ∗ chP c 0 f ∗ chP c 1 g)
        ∗ ((wP m c ∗ chP c 0 (stageAt m c) ∗ chP c 1 (stageAt m c)) -∗ Q ⟨k0_pay9 (k0_pay3 (pos c) (rstg m c) (xstg m c)) (wld m c 0 2), k0_pay10 (k0_pay4 (pos c) (rstg m c) (xstg m c)) (wld m c 1 2)⟩))
      ⊢ wpc c (at' (k0_part3 (F := F)) (k0_pay3 (pos c) (rstg m c) (xstg m c)) (k0_pay4 (pos c) (rstg m c) (xstg m c)) (k0_pay5 (F := F)) (k0_pay6 (pos c) (rstg m c) (xstg m c) (wld m c 0 0))) Q := by
  simp only [at', k0_part3_eq_skeleton]; unfold k0_part3_skel
  simp only [Prog.lift, Prog.bind_op, Prog.bind_ret, Prog.pure_eq_ret]
  iintro ⟨⟨Hw, H0, H1⟩, Hk⟩
  iapply (load_w m c 1 0 rfl) $$ Hw; iintro Hw
  iapply (load_chunk c 0 f rfl) $$ H0; iintro H0
  iapply (store_chunk m c 0 f rfl rfl) $$ H0; iintro H0
  iapply (load_w m c 0 1 rfl) $$ Hw; iintro Hw
  iapply (load_w m c 1 1 rfl) $$ Hw; iintro Hw
  iapply (load_chunk c 1 g rfl) $$ H1; iintro H1
  iapply (store_chunk m c 1 g rfl rfl) $$ H1; iintro H1
  iapply (load_w m c 0 2 rfl) $$ Hw; iintro Hw
  iapply (load_w m c 1 2 rfl) $$ Hw; iintro Hw
  iapply (wpc_ret c)
  iapply Hk; isplitl [Hw]; · iexact Hw
  isplitl [H0] <;> iassumption

theorem part4 {Q : _ → sProp 𝕄} (f g) :
    iprop((ctx m K ∗ ow c (O₁ c) ∗ cred (tallyAt (barCell c) () 3) ∗ atPos ER (barCell c) 0 ∅ 0 ∗ wP m c ∗ chP c 2 f ∗ chP c 3 g)
        ∗ (∀ r, (ow c (O₁ c) ∗ atPos ER (barCell c) 1 ∅ 0 ∗ (bigSep Finset.univ fun k : Fin 3 => landing (nx c k) k)
            ∗ wP m c ∗ chP c 2 (stageAt m c) ∗ chP c 3 (stageAt m c)) -∗ Q r))
      ⊢ wpc c (at' (k0_part4 (F := F)) (pos c) (SemArray.scalar (sig.barrier 0 rfl)) (k0_pay3 (pos c) (rstg m c) (xstg m c)) (k0_pay4 (pos c) (rstg m c) (xstg m c)) (k0_pay9 (k0_pay3 (pos c) (rstg m c) (xstg m c)) (wld m c 0 2)) (k0_pay10 (k0_pay4 (pos c) (rstg m c) (xstg m c)) (wld m c 1 2))) Q := by
  simp only [at', k0_part4_eq_skeleton]; unfold k0_part4_skel
  simp only [semWaitWord, Prog.lift, Prog.bind_op, Prog.bind_ret, Prog.pure_eq_ret]
  iintro ⟨⟨#Hc, HO, Hcr, Hat, Hw, H2, H3⟩, Hk⟩
  iapply (load_chunk c 2 f rfl) $$ H2; iintro H2
  iapply (store_chunk m c 2 f rfl rfl) $$ H2; iintro H2
  iapply (load_w m c 0 3 rfl) $$ Hw; iintro Hw
  iapply (load_w m c 1 3 rfl) $$ Hw; iintro Hw
  iapply (load_chunk c 3 g rfl) $$ H3; iintro H3
  iapply (store_chunk m c 3 g rfl rfl) $$ H3; iintro H3
  iapply (step_bar m K c (by decide) (above_O₁ (by decide) c)) $$ [HO Hcr Hat]
  · isplitr; · iexact Hc
    isplitl [HO]; · iexact HO
    isplitl [Hcr]; · iexact Hcr
    iexact Hat
  iintro ⟨HO, Hat, Hl⟩
  iapply (wpc_ret c)
  iapply Hk; isplitl [HO]; · iexact HO
  isplitl [Hat]; · iexact Hat
  isplitl [Hl]; · iexact Hl
  isplitl [Hw]; · iexact Hw
  isplitl [H2] <;> iassumption

theorem part5 {Q : _ → sProp 𝕄} {a b d} :
    iprop((ctx m K ∗ ow c (O₁ c) ∗ sendRes m c 0 ∗ sendRes m c 1 ∗ sendRes m c 2)
        ∗ (∀ r, (ow c (OA c + TC c 3) ∗ sentRes c 0 ∗ sentRes c 1 ∗ sentRes c 2) -∗ Q r))
      ⊢ wpc c (at' (k0_part5 (F := F)) c (pos c) a b d) Q := by
  simp only [at', k0_part5_eq_skeleton]; unfold k0_part5_skel
  simp only [Prog.lift, Prog.bind_op, Prog.bind_ret, Prog.pure_eq_ret]
  iintro ⟨⟨#Hc, HO, H0, H1, H2⟩, Hk⟩
  iapply (step_sends m K c 0 (cond1_iff c) (fun h => Fin.ext k0_dev4_eq) (fun h => Fin.ext k0_dev5_eq) (fun h => stV_eq rfl) (fun h => stV_eq rfl)
    (fun h => rcV_eq (off2_eq c ((cond1_iff c).mp h))) (fun h => rcV_eq (off4_eq c ((cond1_iff c).mp h)))
    (fun h => sem_rsS (off1_eq c ((cond1_iff c).mp h))) (fun h => sem_rsS (off3_eq c ((cond1_iff c).mp h)))
    (fun h => sem_rsR (off1_eq c ((cond1_iff c).mp h))) (fun h => sem_rsR (off3_eq c ((cond1_iff c).mp h)))) $$ [HO H0]
  · isplitr; · iexact Hc
    isplitl [HO]; · iexact HO
    iexact H0
  iintro ⟨HO, H0⟩
  iapply (step_sends m K c 1 (cond2_iff c) (fun h => Fin.ext k0_dev6_eq) (fun h => Fin.ext k0_dev7_eq) (fun h => stV_eq rfl) (fun h => stV_eq rfl)
    (fun h => rcV_eq (off6_eq c ((cond2_iff c).mp h))) (fun h => rcV_eq (off8_eq c ((cond2_iff c).mp h)))
    (fun h => sem_rsS (off5_eq c ((cond2_iff c).mp h))) (fun h => sem_rsS (off7_eq c ((cond2_iff c).mp h)))
    (fun h => sem_rsR (off5_eq c ((cond2_iff c).mp h))) (fun h => sem_rsR (off7_eq c ((cond2_iff c).mp h)))) $$ [HO H1]
  · isplitr; · iexact Hc
    isplitl [HO]; · iexact HO
    iexact H1
  iintro ⟨HO, H1⟩
  iapply (step_sends m K c 2 (cond3_iff c) (fun h => Fin.ext k0_dev8_eq) (fun h => Fin.ext k0_dev9_eq) (fun h => stV_eq rfl) (fun h => stV_eq rfl)
    (fun h => rcV_eq (off10_eq c ((cond3_iff c).mp h))) (fun h => rcV_eq (off12_eq c ((cond3_iff c).mp h)))
    (fun h => sem_rsS (off9_eq c ((cond3_iff c).mp h))) (fun h => sem_rsS (off11_eq c ((cond3_iff c).mp h)))
    (fun h => sem_rsR (off9_eq c ((cond3_iff c).mp h))) (fun h => sem_rsR (off11_eq c ((cond3_iff c).mp h)))) $$ [HO H2]
  · isplitr; · iexact Hc
    isplitl [HO]; · iexact HO
    iexact H2
  iintro ⟨HO, H2⟩
  iapply (wpc_ret c)
  iapply Hk; isplitl [HO]; · iexact HO
  isplitl [H0]; · iexact H0
  isplitl [H1] <;> iassumption

theorem part6 {Q : _ → sProp 𝕄} {a b d} :
    iprop((ctx m K ∗ ow c (OA c + TC c 3) ∗ sendRes m c 3 ∗ chP c c (stageAt m c) ∗ wres c (1, 0, 0))
        ∗ (∀ e, (ow c (OA c) ∗ sentRes c 3 ∗ chP c c (stageAt m c) ∗ waited c (1, 0, 0) ∗ rcP c 0 0 (rsC m c)) -∗ Q ⟨k0_pay13 (ownL m c), e⟩))
      ⊢ wpc c (at' (k0_part6 (F := F)) c (pos c) a b d) Q := by
  simp only [at', k0_part6_eq_skeleton]; unfold k0_part6_skel
  simp only [Prog.lift, Prog.bind_op, Prog.bind_ret, Prog.pure_eq_ret]
  iintro ⟨⟨#Hc, HO, H3, Hs, Hw⟩, Hk⟩
  iapply (step_sends m K c 3 (cond4_iff c) (fun h => Fin.ext k0_dev10_eq) (fun h => Fin.ext k0_dev11_eq) (fun h => stV_eq rfl) (fun h => stV_eq rfl)
    (fun h => rcV_eq (off14_eq c ((cond4_iff c).mp h))) (fun h => rcV_eq (off16_eq c ((cond4_iff c).mp h)))
    (fun h => sem_rsS (off13_eq c ((cond4_iff c).mp h))) (fun h => sem_rsS (off15_eq c ((cond4_iff c).mp h)))
    (fun h => sem_rsR (off13_eq c ((cond4_iff c).mp h))) (fun h => sem_rsR (off15_eq c ((cond4_iff c).mp h)))) $$ [HO H3]
  · isplitr; · iexact Hc
    isplitl [HO]; · iexact HO
    iexact H3
  iintro ⟨HO, H3⟩
  iapply (load_own m c (k0_off17_eq c)) $$ Hs; iintro Hs
  iapply (step_wait m K c (1, 0, 0) (sem_rsR rfl) (N_rc 0 0) (above_OA (by rw [lv_xfer]; decide) c)) $$ [HO Hw]
  · isplitr; · iexact Hc
    isplitl [HO] <;> iassumption
  rw [pay_rsR]
  iintro ⟨HO, Hw, Hr⟩
  iapply (wpc_ret c)
  iapply Hk; isplitl [HO]; · iexact HO
  isplitl [H3]; · iexact H3
  isplitl [Hs]; · iexact Hs
  isplitl [Hw] <;> iassumption

omit [FloatOps F] in
/-- A half sum held in full, as the three shares that its transfers take. -/
theorem gs_thirds (s : Fin 2) (f : Buf (Elt F) ((c : Thread nD τ).loc cc0_scratch2)) :
    gsP c fullShare s f
      = iprop(gsP c (Ring.shares3 fullShare 0) s f ∗ gsP c (Ring.shares3 fullShare 1) s f ∗ gsP c (Ring.shares3 fullShare 2) s f) :=
  BI.equiv_iff.mp ⟨(Ring.pointsTo_thirds ..).1, (Ring.pointsTo_thirds ..).2⟩

/-- What the kernel stores in its send buffer are the two halves of the sum. -/
theorem sum_0 : k0_pay15 (k0_pay13 (ownL m c)) (rsL m c 0 0) (rsL m c 1 0) (rsL m c 2 0) = redH m c 0 :=
  (shapeCast_self _ _).trans (red_0 m c)
theorem sum_1 : k0_pay19 (k0_pay16 (k0_pay13 (ownL m c)) (rsL m c 0 1)) (k0_pay17 (rsL m c 1 1)) (rsL m c 2 1) = redH m c 1 :=
  (shapeCast_self _ _).trans (red_1 m c)

theorem part7 {Q : _ → sProp 𝕄} {a b} :
    iprop((ctx m K ∗ ow c (OA c) ∗ wres c (1, 1, 0)) ∗ (∀ r, (ow c (OA c) ∗ waited c (1, 1, 0) ∗ rcP c 1 0 (rsC m c)) -∗ Q r))
      ⊢ wpc c (at' (k0_part7 (F := F)) a b) Q := by
  simp only [at', k0_part7_eq_skeleton]; unfold k0_part7_skel
  simp only [Prog.lift, Prog.bind_op, Prog.bind_ret, Prog.pure_eq_ret]
  iintro ⟨⟨#Hc, HO, Hw⟩, Hk⟩
  iapply (step_wait m K c (1, 1, 0) (sem_rsR rfl) (N_rc 1 0) (above_OA (by rw [lv_xfer]; decide) c)) $$ [HO Hw]
  · isplitr; · iexact Hc
    isplitl [HO] <;> iassumption
  rw [pay_rsR]; iintro ⟨HO, Hw, Hr1⟩
  iapply (wpc_ret c)
  iapply Hk; isplitl [HO]; · iexact HO
  isplitl [Hw] <;> iassumption

theorem part8 {Q : _ → sProp 𝕄} {a b} (f) :
    iprop((ctx m K ∗ ow c (OA c) ∗ wres c (1, 2, 0) ∗ rcP c 0 0 (rsC m c) ∗ rcP c 1 0 (rsC m c) ∗ gsP c fullShare 0 f)
        ∗ (∀ e, (ow c (OA c) ∗ waited c (1, 2, 0) ∗ rcP c 0 0 (rsC m c) ∗ rcP c 1 0 (rsC m c) ∗ rcP c 2 0 (rsC m c) ∗ gsP c fullShare 0 (redC m c))
            -∗ Q ⟨redH m c 0, e⟩))
      ⊢ wpc c (at' (k0_part8 (F := F)) a (k0_pay13 (ownL m c)) b) Q := by
  simp only [at', k0_part8_eq_skeleton]; unfold k0_part8_skel
  simp only [Prog.lift, Prog.bind_op, Prog.bind_ret, Prog.pure_eq_ret]
  iintro ⟨⟨#Hc, HO, Hw, Hr0, Hr1, Hs⟩, Hk⟩
  iapply (step_wait m K c (1, 2, 0) (sem_rsR rfl) (N_rc 2 0) (above_OA (by rw [lv_xfer]; decide) c)) $$ [HO Hw]
  · isplitr; · iexact Hc
    isplitl [HO] <;> iassumption
  rw [pay_rsR]; iintro ⟨HO, Hw, Hr2⟩
  iapply (load_rc m c 0 0 rfl) $$ Hr0; iintro Hr0
  iapply (load_rc m c 1 0 rfl) $$ Hr1; iintro Hr1
  iapply (load_rc m c 2 0 rfl) $$ Hr2; iintro Hr2
  iapply (load_gs c 0 f rfl) $$ Hs; iintro Hs
  iapply (store_gs m c 0 f rfl (sum_0 m c)) $$ Hs; iintro Hs
  rw [red_0]
  iapply (wpc_ret c)
  iapply Hk; isplitl [HO]; · iexact HO
  isplitl [Hw]; · iexact Hw
  isplitl [Hr0]; · iexact Hr0
  isplitl [Hr1]; · iexact Hr1
  isplitl [Hr2] <;> iassumption

theorem part9 {Q : _ → sProp 𝕄} {v a b d e f} :
    iprop((ctx m K ∗ ow c (OA c) ∗ gsP c (Ring.shares3 fullShare 0) 0 (redC m c) ∗ agRes c 0 0) ∗ ((ow c ((OA1 c + TA c 2 0) + TA c 1 0) ∗ wres c (2, 0, 0)) -∗ Q ⟨⟩))
      ⊢ wpc c (at' (k0_part9 (F := F)) c v a b d e f) Q := by
  simp only [at', k0_part9_eq_skeleton]; unfold k0_part9_skel
  simp only [Prog.lift, Prog.bind_op, Prog.bind_ret, Prog.pure_eq_ret]
  iintro ⟨⟨#Hc, HO, Hs, Ha⟩, Hk⟩
  iapply (step_ag m K c 0 0 (dev12_eq c) (gsV_eq rfl) (gcV_eq rfl) (sem_agS rfl) (sem_agR rfl) ((OA1 c + TA c 2 0) + TA c 1 0) rfl) $$ [HO Hs Ha]
  · isplitr; · iexact Hc
    isplitl [HO]; · iexact HO
    isplitl [Hs] <;> iassumption
  iintro ⟨HO, Ha⟩
  iapply (wpc_ret c)
  iapply Hk; isplitl [HO] <;> iassumption

theorem part10 {Q : _ → sProp 𝕄} {v} (f) :
    iprop((ctx m K ∗ ow c ((OA1 c + TA c 2 0) + TA c 1 0) ∗ gsP c (Ring.shares3 fullShare 1) 0 (redC m c) ∗ agRes c 1 0 ∗ gsP c (Ring.shares3 fullShare 2) 0 (redC m c) ∗ agRes c 2 0
          ∗ outP c c 0 f)
        ∗ (∀ r, (ow c (OA1 c) ∗ wres c (2, 1, 0) ∗ wres c (2, 2, 0) ∗ outP c c 0 (outC m)) -∗ Q r))
      ⊢ wpc c (at' (k0_part10 (F := F)) c v (redH m c 0)) Q := by
  simp only [at', k0_part10_eq_skeleton]; unfold k0_part10_skel
  simp only [Prog.lift, Prog.bind_op, Prog.bind_ret, Prog.pure_eq_ret]
  iintro ⟨⟨#Hc, HO, Hs1, Ha1, Hs2, Ha2, Ho⟩, Hk⟩
  iapply (step_ag m K c 1 0 (dev13_eq c) (gsV_eq rfl) (gcV_eq rfl) (sem_agS rfl) (sem_agR rfl) (OA1 c + TA c 2 0) rfl) $$ [HO Hs1 Ha1]
  · isplitr; · iexact Hc
    isplitl [HO]; · iexact HO
    isplitl [Hs1] <;> iassumption
  iintro ⟨HO, Ha1⟩
  iapply (step_ag m K c 2 0 (dev14_eq c) (gsV_eq rfl) (gcV_eq rfl) (sem_agS rfl) (sem_agR rfl) (OA1 c) rfl) $$ [HO Hs2 Ha2]
  · isplitr; · iexact Hc
    isplitl [HO]; · iexact HO
    isplitl [Hs2] <;> iassumption
  iintro ⟨HO, Ha2⟩
  iapply (load_out c c 0 f (k0_off18_eq c)) $$ Ho; iintro Ho
  iapply (store_out m c c 0 f (k0_off18_eq c) rfl) $$ Ho; iintro Ho
  iapply (wpc_ret c)
  iapply Hk; isplitl [HO]; · iexact HO
  isplitl [Ha1]; · iexact Ha1
  isplitl [Ha2] <;> iassumption

theorem part11 {Q : _ → sProp 𝕄} {v a b d e} :
    iprop((ctx m K ∗ ow c (OA1 c) ∗ wres c (1, 0, 1)) ∗ ((ow c (OA1 c) ∗ waited c (1, 0, 1) ∗ rcP c 0 1 (rsC m c)) -∗ Q ⟨⟩))
      ⊢ wpc c (at' (k0_part11 (F := F)) v a b d e) Q := by
  simp only [at', k0_part11_eq_skeleton]; unfold k0_part11_skel
  simp only [Prog.lift, Prog.bind_op, Prog.bind_ret, Prog.pure_eq_ret]
  iintro ⟨⟨#Hc, HO, Hw⟩, Hk⟩
  iapply (step_wait m K c (1, 0, 1) (sem_rsR rfl) (N_rc 0 1) (above_OA1 (by rw [lv_xfer]; decide) c)) $$ [HO Hw]
  · isplitr; · iexact Hc
    isplitl [HO] <;> iassumption
  rw [pay_rsR]; iintro ⟨HO, Hw, Hr0⟩
  iapply (wpc_ret c)
  iapply Hk; isplitl [HO]; · iexact HO
  isplitl [Hw] <;> iassumption

theorem part12 {Q : _ → sProp 𝕄} {v} :
    iprop((ctx m K ∗ ow c (OA1 c) ∗ wres c (1, 1, 1) ∗ wres c (1, 2, 1) ∗ rcP c 0 1 (rsC m c))
        ∗ ((ow c (OA1 c) ∗ waited c (1, 1, 1) ∗ waited c (1, 2, 1) ∗ rcP c 0 1 (rsC m c) ∗ rcP c 1 1 (rsC m c) ∗ rcP c 2 1 (rsC m c))
            -∗ Q ⟨k0_pay16 (k0_pay13 (ownL m c)) (rsL m c 0 1), k0_pay17 (rsL m c 1 1)⟩))
      ⊢ wpc c (at' (k0_part12 (F := F)) v (k0_pay13 (ownL m c))) Q := by
  simp only [at', k0_part12_eq_skeleton]; unfold k0_part12_skel
  simp only [Prog.lift, Prog.bind_op, Prog.bind_ret, Prog.pure_eq_ret]
  iintro ⟨⟨#Hc, HO, Hw1, Hw2, Hr0⟩, Hk⟩
  iapply (step_wait m K c (1, 1, 1) (sem_rsR rfl) (N_rc 1 1) (above_OA1 (by rw [lv_xfer]; decide) c)) $$ [HO Hw1]
  · isplitr; · iexact Hc
    isplitl [HO] <;> iassumption
  rw [pay_rsR]; iintro ⟨HO, Hw1, Hr1⟩
  iapply (step_wait m K c (1, 2, 1) (sem_rsR rfl) (N_rc 2 1) (above_OA1 (by rw [lv_xfer]; decide) c)) $$ [HO Hw2]
  · isplitr; · iexact Hc
    isplitl [HO] <;> iassumption
  rw [pay_rsR]; iintro ⟨HO, Hw2, Hr2⟩
  iapply (load_rc m c 0 1 rfl) $$ Hr0; iintro Hr0
  iapply (load_rc m c 1 1 rfl) $$ Hr1; iintro Hr1
  iapply (wpc_ret c)
  iapply Hk; isplitl [HO]; · iexact HO
  isplitl [Hw1]; · iexact Hw1
  isplitl [Hw2]; · iexact Hw2
  isplitl [Hr0]; · iexact Hr0
  isplitl [Hr1] <;> iassumption

theorem part13 {Q : _ → sProp 𝕄} {v} (f) :
    iprop((ctx m K ∗ ow c (OA1 c) ∗ rcP c 2 1 (rsC m c) ∗ gsP c fullShare 1 f ∗ agRes c 0 1)
        ∗ (∀ e, (ow c ((0 + TA c 2 1) + TA c 1 1) ∗ rcP c 2 1 (rsC m c) ∗ gsP c (Ring.shares3 fullShare 1) 1 (redC m c) ∗ gsP c (Ring.shares3 fullShare 2) 1 (redC m c) ∗ wres c (2, 0, 1))
            -∗ Q ⟨redH m c 1, e⟩))
      ⊢ wpc c (at' (k0_part13 (F := F)) c v (k0_pay16 (k0_pay13 (ownL m c)) (rsL m c 0 1)) (k0_pay17 (rsL m c 1 1))) Q := by
  simp only [at', k0_part13_eq_skeleton]; unfold k0_part13_skel
  simp only [Prog.lift, Prog.bind_op, Prog.bind_ret, Prog.pure_eq_ret]
  iintro ⟨⟨#Hc, HO, Hr2, Hs, Ha⟩, Hk⟩
  iapply (load_rc m c 2 1 rfl) $$ Hr2; iintro Hr2
  iapply (load_gs c 1 f rfl) $$ Hs; iintro Hs
  iapply (store_gs m c 1 f rfl (sum_1 m c)) $$ Hs; iintro Hs
  rw [red_1]
  ihave Ht := (Entails.of_eq (gs_thirds c 1 (redC m c))) $$ Hs
  icases Ht with ⟨Hs0, Hs1, Hs2⟩
  iapply (step_ag m K c 0 1 (dev15_eq c) (gsV_eq rfl) (gcV_eq rfl) (sem_agS rfl) (sem_agR rfl) ((0 + TA c 2 1) + TA c 1 1) rfl) $$ [HO Hs0 Ha]
  · isplitr; · iexact Hc
    isplitl [HO]; · iexact HO
    isplitl [Hs0] <;> iassumption
  iintro ⟨HO, Ha⟩
  iapply (wpc_ret c)
  iapply Hk; isplitl [HO]; · iexact HO
  isplitl [Hr2]; · iexact Hr2
  isplitl [Hs1]; · iexact Hs1
  isplitl [Hs2] <;> iassumption

theorem part14 {Q : _ → sProp 𝕄} {v a b d e} :
    iprop((ctx m K ∗ ow c ((0 + TA c 2 1) + TA c 1 1) ∗ gsP c (Ring.shares3 fullShare 1) 1 (redC m c) ∗ agRes c 1 1) ∗ ((ow c (0 + TA c 2 1) ∗ wres c (2, 1, 1)) -∗ Q ⟨⟩))
      ⊢ wpc c (at' (k0_part14 (F := F)) c v a b d e) Q := by
  simp only [at', k0_part14_eq_skeleton]; unfold k0_part14_skel
  simp only [Prog.lift, Prog.bind_op, Prog.bind_ret, Prog.pure_eq_ret]
  iintro ⟨⟨#Hc, HO, Hs, Ha⟩, Hk⟩
  iapply (step_ag m K c 1 1 (dev16_eq c) (gsV_eq rfl) (gcV_eq rfl) (sem_agS rfl) (sem_agR rfl) (0 + TA c 2 1) rfl) $$ [HO Hs Ha]
  · isplitr; · iexact Hc
    isplitl [HO]; · iexact HO
    isplitl [Hs] <;> iassumption
  iintro ⟨HO, Ha⟩
  iapply (wpc_ret c)
  iapply Hk; isplitl [HO] <;> iassumption

/-- The own part of the result's columns is stored; the first landing of the all-gather is waited for. -/
theorem part15 {Q : _ → sProp 𝕄} {v} (f) :
    iprop((ctx m K ∗ ow c (0 + TA c 2 1) ∗ gsP c (Ring.shares3 fullShare 2) 1 (redC m c) ∗ agRes c 2 1 ∗ outP c c 1 f ∗ wres c (3, 0, 0))
        ∗ (∀ r, (ow c 0 ∗ wres c (2, 2, 1) ∗ outP c c 1 (outC m) ∗ waited c (3, 0, 0) ∗ gcP c 0 0 (agC m c)) -∗ Q r))
      ⊢ wpc c (at' (k0_part15 (F := F)) c v (redH m c 1)) Q := by
  simp only [at', k0_part15_eq_skeleton]; unfold k0_part15_skel
  simp only [Prog.lift, Prog.bind_op, Prog.bind_ret, Prog.pure_eq_ret]
  iintro ⟨⟨#Hc, HO, Hs, Ha, Ho, Hw⟩, Hk⟩
  iapply (step_ag m K c 2 1 (dev17_eq c) (gsV_eq rfl) (gcV_eq rfl) (sem_agS rfl) (sem_agR rfl) (0) rfl) $$ [HO Hs Ha]
  · isplitr; · iexact Hc
    isplitl [HO]; · iexact HO
    isplitl [Hs] <;> iassumption
  iintro ⟨HO, Ha⟩
  iapply (load_out c c 1 f (k0_off19_eq c)) $$ Ho; iintro Ho
  iapply (store_out m c c 1 f (k0_off19_eq c) rfl) $$ Ho; iintro Ho
  iapply (step_wait m K c (3, 0, 0) (sem_agR rfl) (N_gc 0 0) (above_zero _)) $$ [HO Hw]
  · isplitr; · iexact Hc
    isplitl [HO] <;> iassumption
  rw [pay_agR]; iintro ⟨HO, Hw, Hg⟩
  iapply (wpc_ret c)
  iapply Hk; isplitl [HO]; · iexact HO
  isplitl [Ha]; · iexact Ha
  isplitl [Ho]; · iexact Ho
  isplitl [Hw] <;> iassumption

/-! ### The all-gather's landings -/

/-- A landed piece is loaded, and stored at its columns of the result. -/
theorem take_piece {α : Type} {Q : α → sProp 𝕄} (k : Fin 3) (s : Fin 2) (f) {o : Fin 3 → ℕ} {o' o'' : Fin 2 → ℕ} {h h' h''}
    {hl : gcM.view.LoadsAt (Rect.unit (s := S3x512x128) o S1x256x128.size h).toLoadRect}
    {hl' : oM.view.LoadsAt (Rect.unit (s := S512x512) o' S256x128.size h').toLoadRect}
    {pay : Vec F S1x256x128 .bf16 → Vec F S256x128 .bf16}
    {hx : (oM.access (Rect.unit (s := S512x512) o'' S256x128.size h'')).Stores Finset.univ} {hm}
    {kk : PUnit → Prog (TpuEff nD τ sig (Elt F) Λ₀ .tc) α} (ho : o = ![k.val, 256 * s.val, 0])
    (ho' : o' = ![256 * s.val, 128 * (pv c k).val]) (ho'' : o'' = ![256 * s.val, 128 * (pv c k).val]) (hp : pay = unblk) :
    iprop(gcP c k s (agC m c) ∗ outP c (pv c k) s f)
      ⊢ iprop(((gcP c k s (agC m c) ∗ outP c (pv c k) s (outC m)) -∗ wpc c (kk ⟨⟩) Q)
        -∗ wpc c (.op (.load gcM (Rect.unit (s := S3x512x128) o S1x256x128.size h).toLoadRect hl) fun v =>
            .op (.load oM (Rect.unit (s := S512x512) o' S256x128.size h').toLoadRect hl') fun _ =>
            .op (.store oM (Rect.unit (s := S512x512) o'' S256x128.size h'') (pay v) Finset.univ hx hm) kk) Q) := by
  iintro ⟨Hg, Ho⟩ Hk
  iapply (load_gc m c k s ho) $$ Hg; iintro Hg
  iapply (load_out c (pv c k) s f ho') $$ Ho; iintro Ho
  iapply (store_out m c (pv c k) s f ho'' (by rw [hp, unblk_agL])) $$ Ho; iintro Ho
  iapply Hk; isplitl [Hg] <;> iassumption

theorem part16 {Q : _ → sProp 𝕄} {v a b d} (f) :
    iprop((gcP c 0 0 (agC m c) ∗ outP c (pv c 0) 0 f) ∗ ((gcP c 0 0 (agC m c) ∗ outP c (pv c 0) 0 (outC m)) -∗ Q ⟨⟩))
      ⊢ wpc c (at' (k0_part16 (F := F)) c v a b d) Q := by
  simp only [at', k0_part16_eq_skeleton]; unfold k0_part16_skel
  simp only [Prog.lift, Prog.bind_op, Prog.bind_ret, Prog.pure_eq_ret]
  iintro ⟨H, Hk⟩
  iapply (take_piece m c 0 0 f rfl (off20_eq c 0) (off20_eq c 0) rfl) $$ H; iintro H
  iapply (wpc_ret c)
  iapply Hk $$ H

/-- The wait on an all-gather landing, and its taking. -/
theorem wait_piece {α : Type} {Q : α → sProp 𝕄} (k : Fin 3) (s : Fin 2) (f) {sm : DmaSem sig} (hsm : sm = ds (3, k, s)) {sp sp' : Space} {s₁ s₂ : Shape}
    {e₁ e₂ : EltTy} {src : Memref sig .tc sp' s₂ e₂} {dst : Memref sig .tc sp s₁ e₁} {hsrc : src.view.WordExact} {hdst : dst.view.WordExact}
    (hN : dst.view.dmaCredit = N) {o : Fin 3 → ℕ} {o' o'' : Fin 2 → ℕ} {h h' h''}
    {hl : gcM.view.LoadsAt (Rect.unit (s := S3x512x128) o S1x256x128.size h).toLoadRect}
    {hl' : oM.view.LoadsAt (Rect.unit (s := S512x512) o' S256x128.size h').toLoadRect}
    {pay : Vec F S1x256x128 .bf16 → Vec F S256x128 .bf16}
    {hx : (oM.access (Rect.unit (s := S512x512) o'' S256x128.size h'')).Stores Finset.univ} {hm}
    {kk : PUnit → Prog (TpuEff nD τ sig (Elt F) Λ₀ .tc) α} (ho : o = ![k.val, 256 * s.val, 0])
    (ho' : o' = ![256 * s.val, 128 * (pv c k).val]) (ho'' : o'' = ![256 * s.val, 128 * (pv c k).val]) (hp : pay = unblk) :
    iprop(ctx m K ∗ ow c 0 ∗ wres c (3, k, s) ∗ outP c (pv c k) s f)
      ⊢ iprop(((ow c 0 ∗ waited c (3, k, s) ∗ gcP c k s (agC m c) ∗ outP c (pv c k) s (outC m)) -∗ wpc c (kk ⟨⟩) Q)
        -∗ wpc c (.op (.waitDma2 sm src dst hsrc hdst) fun _ =>
            .op (.load gcM (Rect.unit (s := S3x512x128) o S1x256x128.size h).toLoadRect hl) fun v =>
            .op (.load oM (Rect.unit (s := S512x512) o' S256x128.size h').toLoadRect hl') fun _ =>
            .op (.store oM (Rect.unit (s := S512x512) o'' S256x128.size h'') (pay v) Finset.univ hx hm) kk) Q) := by
  iintro ⟨#Hc, HO, Hw, Ho⟩ Hk
  iapply (step_wait m K c (3, k, s) hsm hN (above_zero _)) $$ [HO Hw]
  · isplitr; · iexact Hc
    isplitl [HO] <;> iassumption
  rw [pay_agR]; iintro ⟨HO, Hw, Hg⟩
  iapply (take_piece m c k s f ho ho' ho'' hp) $$ [Hg Ho]
  · isplitl [Hg] <;> iassumption
  iintro ⟨Hg, Ho⟩
  iapply Hk; isplitl [HO]; · iexact HO
  isplitl [Hw]; · iexact Hw
  isplitl [Hg] <;> iassumption

theorem part17 {Q : _ → sProp 𝕄} {v} (f) :
    iprop((ctx m K ∗ ow c 0 ∗ wres c (3, 1, 0) ∗ outP c (pv c 1) 0 f)
        ∗ ((ow c 0 ∗ waited c (3, 1, 0) ∗ gcP c 1 0 (agC m c) ∗ outP c (pv c 1) 0 (outC m)) -∗ Q ⟨⟩))
      ⊢ wpc c (at' (k0_part17 (F := F)) c v) Q := by
  simp only [at', k0_part17_eq_skeleton]; unfold k0_part17_skel
  simp only [Prog.lift, Prog.bind_op, Prog.bind_ret, Prog.pure_eq_ret]
  iintro ⟨H, Hk⟩
  iapply (wait_piece m K c 1 0 f (sem_agR rfl) (N_gc 1 0) rfl (off20_eq c 1) (off20_eq c 1) rfl) $$ H; iintro H
  iapply (wpc_ret c)
  iapply Hk $$ H

theorem part18 {Q : _ → sProp 𝕄} {v} (f) :
    iprop((ctx m K ∗ ow c 0 ∗ wres c (3, 2, 0) ∗ outP c (pv c 2) 0 f)
        ∗ (∀ r, (ow c 0 ∗ waited c (3, 2, 0) ∗ gcP c 2 0 (agC m c) ∗ outP c (pv c 2) 0 (outC m)) -∗ Q r))
      ⊢ wpc c (at' (k0_part18 (F := F)) c v) Q := by
  simp only [at', k0_part18_eq_skeleton]; unfold k0_part18_skel
  simp only [Prog.lift, Prog.bind_op, Prog.bind_ret, Prog.pure_eq_ret]
  iintro ⟨H, Hk⟩
  iapply (wait_piece m K c 2 0 f (sem_agR rfl) (N_gc 2 0) rfl (off20_eq c 2) (off20_eq c 2) rfl) $$ H; iintro H
  iapply (wpc_ret c)
  iapply Hk $$ H

theorem part19 {Q : _ → sProp 𝕄} {v a b} (f) :
    iprop((ctx m K ∗ ow c 0 ∗ wres c (3, 0, 1) ∗ outP c (pv c 0) 1 f)
        ∗ (∀ r, (ow c 0 ∗ waited c (3, 0, 1) ∗ gcP c 0 1 (agC m c) ∗ outP c (pv c 0) 1 (outC m)) -∗ Q r))
      ⊢ wpc c (at' (k0_part19 (F := F)) c v a b) Q := by
  simp only [at', k0_part19_eq_skeleton]; unfold k0_part19_skel
  simp only [Prog.lift, Prog.bind_op, Prog.bind_ret, Prog.pure_eq_ret]
  iintro ⟨H, Hk⟩
  iapply (wait_piece m K c 0 1 f (sem_agR rfl) (N_gc 0 1) rfl (off21_eq c 0) (off21_eq c 0) rfl) $$ H; iintro H
  iapply (wpc_ret c)
  iapply Hk $$ H

theorem part20 {Q : _ → sProp 𝕄} {v a} (f) :
    iprop((ctx m K ∗ ow c 0 ∗ wres c (3, 1, 1) ∗ outP c (pv c 1) 1 f)
        ∗ (∀ r, (ow c 0 ∗ waited c (3, 1, 1) ∗ gcP c 1 1 (agC m c) ∗ outP c (pv c 1) 1 (outC m)) -∗ Q r))
      ⊢ wpc c (at' (k0_part20 (F := F)) c v a) Q := by
  simp only [at', k0_part20_eq_skeleton]; unfold k0_part20_skel
  simp only [Prog.lift, Prog.bind_op, Prog.bind_ret, Prog.pure_eq_ret]
  iintro ⟨H, Hk⟩
  iapply (wait_piece m K c 1 1 f (sem_agR rfl) (N_gc 1 1) rfl (off21_eq c 1) (off21_eq c 1) rfl) $$ H; iintro H
  iapply (wpc_ret c)
  iapply Hk $$ H

theorem part21 {Q : _ → sProp 𝕄} {v a b d e} (f) :
    iprop((ctx m K ∗ ow c 0 ∗ wres c (3, 2, 1) ∗ outP c (pv c 2) 1 f)
        ∗ ((ow c 0 ∗ waited c (3, 2, 1) ∗ gcP c 2 1 (agC m c) ∗ outP c (pv c 2) 1 (outC m)) -∗ Q ⟨⟩))
      ⊢ wpc c (at' (k0_part21 (F := F)) c v a b d e) Q := by
  simp only [at', k0_part21_eq_skeleton]; unfold k0_part21_skel
  simp only [Prog.lift, Prog.bind_op, Prog.bind_ret, Prog.pure_eq_ret]
  iintro ⟨H, Hk⟩
  iapply (wait_piece m K c 2 1 f (sem_agR rfl) (N_gc 2 1) rfl (off21_eq c 2) (off21_eq c 2) rfl) $$ H; iintro H
  iapply (wpc_ret c)
  iapply Hk $$ H

/-! ### The waits on the own transfers' send cells -/

/-- A transfer's send cell waited on: what the transfer returns. -/
def drained (d : DK) : sProp 𝕄 := iprop(waited c d ∗ xferPay m c d)

theorem step_drain {α : Type} {Q : α → sProp 𝕄} (d : DK) {sm : DmaSem sig} (hsm : sm = ds d) {sp sp' : Space} {s₁ s₂ : Shape}
    {e₁ e₂ : EltTy} {src : Memref sig .tc sp' s₂ e₂} {dst : Memref sig .tc sp s₁ e₁} {hsrc : src.view.WordExact} {hdst : dst.view.WordExact}
    (hN : dst.view.dmaCredit = N) {kk : PUnit → Prog (TpuEff nD τ sig (Elt F) Λ₀ .tc) α} :
    iprop(ctx m K ∗ ow c 0 ∗ wres c d)
      ⊢ iprop(((ow c 0 ∗ drained m c d) -∗ wpc c (kk ⟨⟩) Q) -∗ wpc c (.op (.waitDma2 sm src dst hsrc hdst) kk) Q) :=
  step_wait m K c d hsm hN (above_zero _)

theorem part22 {Q : _ → sProp 𝕄} :
    iprop((ctx m K ∗ ow c 0 ∗ wres c (0, 0, 0) ∗ wres c (2, 0, 0) ∗ wres c (0, 0, 1))
        ∗ ((ow c 0 ∗ drained m c (0, 0, 0) ∗ drained m c (2, 0, 0) ∗ drained m c (0, 0, 1)) -∗ Q ⟨⟩))
      ⊢ wpc c (at' (k0_part22 (F := F))) Q := by
  simp only [at', k0_part22_eq_skeleton]; unfold k0_part22_skel
  simp only [Prog.lift, Prog.bind_op, Prog.bind_ret, Prog.pure_eq_ret]
  iintro ⟨⟨#Hc, HO, H0, H1, H2⟩, Hk⟩
  iapply (step_drain m K c (0, 0, 0) (sem_rsS rfl) (N_gs 0)) $$ [HO H0]
  · isplitr; · iexact Hc
    isplitl [HO] <;> iassumption
  iintro ⟨HO, H0⟩
  iapply (step_drain m K c (2, 0, 0) (sem_agS rfl) (N_gs 0)) $$ [HO H1]
  · isplitr; · iexact Hc
    isplitl [HO] <;> iassumption
  iintro ⟨HO, H1⟩
  iapply (step_drain m K c (0, 0, 1) (sem_rsS rfl) (N_gs 1)) $$ [HO H2]
  · isplitr; · iexact Hc
    isplitl [HO] <;> iassumption
  iintro ⟨HO, H2⟩
  iapply (wpc_ret c)
  iapply Hk; isplitl [HO]; · iexact HO
  isplitl [H0]; · iexact H0
  isplitl [H1] <;> iassumption

theorem part23 {Q : _ → sProp 𝕄} :
    iprop((ctx m K ∗ ow c 0 ∗ wres c (2, 0, 1) ∗ wres c (0, 1, 0) ∗ wres c (2, 1, 0) ∗ wres c (0, 1, 1))
        ∗ ((ow c 0 ∗ drained m c (2, 0, 1) ∗ drained m c (0, 1, 0) ∗ drained m c (2, 1, 0) ∗ drained m c (0, 1, 1)) -∗ Q ⟨⟩))
      ⊢ wpc c (at' (k0_part23 (F := F))) Q := by
  simp only [at', k0_part23_eq_skeleton]; unfold k0_part23_skel
  simp only [Prog.lift, Prog.bind_op, Prog.bind_ret, Prog.pure_eq_ret]
  iintro ⟨⟨#Hc, HO, H0, H1, H2, H3⟩, Hk⟩
  iapply (step_drain m K c (2, 0, 1) (sem_agS rfl) (N_gs 1)) $$ [HO H0]
  · isplitr; · iexact Hc
    isplitl [HO] <;> iassumption
  iintro ⟨HO, H0⟩
  iapply (step_drain m K c (0, 1, 0) (sem_rsS rfl) (N_gs 0)) $$ [HO H1]
  · isplitr; · iexact Hc
    isplitl [HO] <;> iassumption
  iintro ⟨HO, H1⟩
  iapply (step_drain m K c (2, 1, 0) (sem_agS rfl) (N_gs 0)) $$ [HO H2]
  · isplitr; · iexact Hc
    isplitl [HO] <;> iassumption
  iintro ⟨HO, H2⟩
  iapply (step_drain m K c (0, 1, 1) (sem_rsS rfl) (N_gs 1)) $$ [HO H3]
  · isplitr; · iexact Hc
    isplitl [HO] <;> iassumption
  iintro ⟨HO, H3⟩
  iapply (wpc_ret c)
  iapply Hk; isplitl [HO]; · iexact HO
  isplitl [H0]; · iexact H0
  isplitl [H1]; · iexact H1
  isplitl [H2] <;> iassumption

theorem part24 {Q : _ → sProp 𝕄} :
    iprop((ctx m K ∗ ow c 0 ∗ wres c (2, 1, 1) ∗ wres c (0, 2, 0) ∗ wres c (2, 2, 0))
        ∗ ((ow c 0 ∗ drained m c (2, 1, 1) ∗ drained m c (0, 2, 0) ∗ drained m c (2, 2, 0)) -∗ Q ⟨⟩))
      ⊢ wpc c (at' (k0_part24 (F := F))) Q := by
  simp only [at', k0_part24_eq_skeleton]; unfold k0_part24_skel
  simp only [Prog.lift, Prog.bind_op, Prog.bind_ret, Prog.pure_eq_ret]
  iintro ⟨⟨#Hc, HO, H0, H1, H2⟩, Hk⟩
  iapply (step_drain m K c (2, 1, 1) (sem_agS rfl) (N_gs 1)) $$ [HO H0]
  · isplitr; · iexact Hc
    isplitl [HO] <;> iassumption
  iintro ⟨HO, H0⟩
  iapply (step_drain m K c (0, 2, 0) (sem_rsS rfl) (N_gs 0)) $$ [HO H1]
  · isplitr; · iexact Hc
    isplitl [HO] <;> iassumption
  iintro ⟨HO, H1⟩
  iapply (step_drain m K c (2, 2, 0) (sem_agS rfl) (N_gs 0)) $$ [HO H2]
  · isplitr; · iexact Hc
    isplitl [HO] <;> iassumption
  iintro ⟨HO, H2⟩
  iapply (wpc_ret c)
  iapply Hk; isplitl [HO]; · iexact HO
  isplitl [H0]; · iexact H0
  isplitl [H1] <;> iassumption

end Parts

end Cert.Dispatch

end
-- ==== Proof.Whole.lean ====
/-
# The body as a whole

The parts of `Body`, one after the other, from what the launch gives a device to what it ends with.
-/
module

public import proofs.«01_k».proof.Proof.Body

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- One resource for every slot and half. -/
def each (Φ : Fin 3 → Fin 2 → sProp 𝕄) : sProp 𝕄 := bigSep Finset.univ fun k : Fin 3 => iprop(Φ k 0 ∗ Φ k 1)

theorem each_eq (Φ : Fin 3 → Fin 2 → sProp 𝕄) :
    each Φ = iprop((Φ 0 0 ∗ Φ 0 1) ∗ (Φ 1 0 ∗ Φ 1 1) ∗ (Φ 2 0 ∗ Φ 2 1)) := by unfold each; rw [fin3]

section Whole
variable (c : Dev nD)

/-- The tokens of the transfer from `c` through slot `k`, half `s`, of family `t` (and `t + 1` at the receiver), with the position on its send cell. -/
def toks (t t' : Fin 4) (k : Fin 3) (s : Fin 2) : sProp 𝕄 :=
  iprop(dutyTok ER (dCell c (t, k, s)) 0 0 ∗ dutyTok ER (dCell (nx c k) (t', k, s)) 0 0 ∗ atPos ER (dCell c (t, k, s)) 0 ∅ 0)

/-- The chunks and their landing slots, as the transfers take them. -/
theorem sends_intro :
    iprop((bigSep Finset.univ fun j : Fin 4 => chP c j (stageAt m c)) ∗ (bigSep Finset.univ fun k : Fin 3 => landing (F := F) (nx c k) k) ∗ each (toks c 0 1) ∗ each (toks c 2 3))
      ⊢ iprop(chP c c (stageAt m c) ∗ (bigSep Finset.univ fun j : Fin 4 => sendRes m c j) ∗ each (agRes (F := F) c)) := by
  have h : ∀ k, iprop(chP c (nx c k) (stageAt m c) ∗ landing (F := F) (nx c k) k ∗ (toks c 0 1 k 0 ∗ toks c 0 1 k 1) ∗ (toks c 2 3 k 0 ∗ toks c 2 3 k 1))
      ⊢ iprop((rsRes m c k 0 ∗ rsRes m c k 1) ∗ (agRes (F := F) c k 0 ∗ agRes c k 1)) := fun k => by
    unfold landing rsRes agRes toks
    rw [chunk_halves]
    iintro ⟨⟨S0, S1⟩, ⟨⟨R0, R1⟩, G0, G1⟩, ⟨T0, T1⟩, A0, A1⟩
    isplitl [S0 S1 R0 R1 T0 T1]
    · isplitl [S0 R0 T0]
      · isplitl [S0]; · iexact S0
        isplitl [R0] <;> iassumption
      · isplitl [S1]; · iexact S1
        isplitl [R1] <;> iassumption
    · isplitl [G0 A0]
      · isplitl [G0] <;> iassumption
      · isplitl [G1] <;> iassumption
  rw [around_nx c, show (fun j : Fin 4 => sendRes m c j) = (fun j : Fin 4 => if j = c then iprop(emp) else iprop(rsRes m c (sl c j) 0 ∗ rsRes m c (sl c j) 1)) from rfl,
    ← slots_devs c (fun k => iprop(rsRes m c k 0 ∗ rsRes m c k 1))]
  unfold each
  have h' : iprop((bigSep Finset.univ fun k => chP c (nx c k) (stageAt m c)) ∗ (bigSep Finset.univ fun k => landing (F := F) (nx c k) k)
        ∗ (bigSep Finset.univ fun k => iprop(toks c 0 1 k 0 ∗ toks c 0 1 k 1)) ∗ bigSep Finset.univ fun k => iprop(toks c 2 3 k 0 ∗ toks c 2 3 k 1))
      ⊢ iprop((bigSep Finset.univ fun k => iprop(rsRes m c k 0 ∗ rsRes m c k 1)) ∗ bigSep Finset.univ fun k => iprop(agRes (F := F) c k 0 ∗ agRes c k 1)) := by
    simp only [← bigSep_sep']; exact bigSep_mono fun k _ => h k
  iintro ⟨⟨Hc, S⟩, L, T, A⟩
  isplitl [Hc]; · iexact Hc
  iapply h'
  isplitl [S]; · iexact S
  isplitl [L]; · iexact L
  isplitl [T] <;> iassumption

/-- What the send cells gave back, joined with the chunk and the half sums. -/
theorem sent_outro :
    (bigSep Finset.univ fun j : Fin 4 => sentRes (F := F) c j) = each fun k s => wres (F := F) c (0, k, s) := by
  rw [show (fun j : Fin 4 => sentRes (F := F) c j) = (fun j : Fin 4 => if j = c then iprop(emp) else iprop(wres c (0, sl c j, 0) ∗ wres c (0, sl c j, 1))) from rfl,
    ← slots_devs c (fun k => iprop(wres (F := F) c (0, k, 0) ∗ wres c (0, k, 1)))]
  rfl

/-- What a device holds when its body starts, its buffers cut into the pieces that it works on; -/
def bodyIn (f : Buf (Elt F) ((c : Thread nD τ).loc cc0_scratch0)) (g : Buf (Elt F) ((c : Thread nD τ).loc cc0_scratch2))
    (o : Buf (Elt F) ((c : Thread nD τ).loc cc0_stg3_0)) : sProp 𝕄 :=
  iprop((xP m c ∗ rP m c ∗ wP m c) ∗ (bigSep Finset.univ fun d : Fin 3 => sigRes (F := F) c d) ∗ (bigSep Finset.univ fun j : Fin 4 => chP c j f)
    ∗ (gsP c fullShare 0 g ∗ gsP c fullShare 1 g) ∗ ((outP c c 0 o ∗ outP c c 1 o) ∗ each fun k s => outP c (pv c k) s o)
    ∗ (cred (tallyAt (barCell c) () 3) ∗ atPos ER (barCell c) 0 ∅ 0) ∗ each (toks c 0 1) ∗ each (toks c 2 3)
    ∗ (each fun k s => wres c (1, k, s)) ∗ each fun k s => wres c (3, k, s))
/-- and when it ends. -/
def bodyOut : sProp 𝕄 :=
  iprop((xP m c ∗ rP m c ∗ wP m c) ∗ chP c c (stageAt m c) ∗ ((outP c c 0 (outC m) ∗ outP c c 1 (outC m)) ∗ each fun k s => outP c (pv c k) s (outC m))
    ∗ atPos ER (barCell c) 1 ∅ 0 ∗ (each fun k s => drained m c (0, k, s)) ∗ (each fun k s => drained m c (1, k, s))
    ∗ (each fun k s => drained m c (2, k, s)) ∗ each fun k s => drained m c (3, k, s))

/-- The body, from start to end. -/
theorem whole {Q : PUnit → sProp 𝕄} (f g o) :
    iprop((ctx m K ∗ ow c (O₀ c) ∗ bodyIn m c f g o) ∗ ((ow c 0 ∗ bodyOut m c) -∗ |={Set.univ}=> Q ⟨⟩)) ⊢ wpc c (at' (cc0_body (F := F))) Q := by
  simp only [at', cc0_body_eq_skeleton]; unfold cc0_body_skel
  simp only [Prog.lift, Prog.bind_op, Prog.bind_ret, Prog.pure_eq_ret, wp_bind]
  unfold bodyIn bodyOut
  rw [fin3, fin4]
  iintro ⟨⟨#Hc, HO, ⟨Hx, Hr, Hw⟩, ⟨S0, S1, S2⟩, ⟨C0, C1, C2, C3⟩, ⟨G0, G1⟩, ⟨⟨P0, P1⟩, HP⟩, ⟨Hcr, Hat⟩, HT, HA, HR, HG⟩, Hk⟩
  ihave HP := (Entails.of_eq (each_eq _)) $$ HP
  icases HP with ⟨⟨Q00, Q01⟩, ⟨Q10, Q11⟩, Q20, Q21⟩
  ihave HR := (Entails.of_eq (each_eq _)) $$ HR
  icases HR with ⟨⟨R00, R01⟩, ⟨R10, R11⟩, R20, R21⟩
  ihave HG := (Entails.of_eq (each_eq _)) $$ HG
  icases HG with ⟨⟨D00, D01⟩, ⟨D10, D11⟩, D20, D21⟩
  iapply (part1 m K c); iframe Hc HO S0 S1; iintro %_ %_ %_ HO; try dsimp only
  iapply (part2 m K c); iframe Hc HO S2 Hr Hx Hw; iintro ⟨HO, Hr, Hx, Hw⟩; try dsimp only
  iapply (part3 m c f f); iframe Hw C0 C1; iintro ⟨Hw, C0, C1⟩; try dsimp only
  iapply (part4 m K c f f); iframe Hc HO Hcr Hat Hw C2 C3; iintro %r ⟨HO, Hat, HL, Hw, C2, C3⟩; try dsimp only
  obtain ⟨_, _, _⟩ := r
  ihave Hs := (sends_intro m c) $$ [C0 C1 C2 C3 HL HT HA]
  · rw [fin4]; iframe C0 C1 C2 C3 HL HT HA
  icases Hs with ⟨Hch, Hs, HA⟩
  ihave Hs := (Entails.of_eq (fin4 _)) $$ Hs
  icases Hs with ⟨S0, S1, S2, S3⟩
  ihave HA := (Entails.of_eq (each_eq _)) $$ HA
  icases HA with ⟨⟨A00, A01⟩, ⟨A10, A11⟩, A20, A21⟩
  dsimp only
  iapply (part5 m K c); iframe Hc HO S0 S1 S2; iintro %r ⟨HO, S0, S1, S2⟩; try dsimp only
  obtain ⟨_, _, _⟩ := r; dsimp only
  iapply (part6 m K c); iframe Hc HO S3 Hch R00; iintro %_ ⟨HO, S3, Hch, R00, L00⟩; try dsimp only
  iapply (part7 m K c); iframe Hc HO R10; iintro %_ ⟨HO, R10, L10⟩; try dsimp only
  iapply (part8 m K c g); iframe Hc HO R20 L00 L10 G0; iintro %e ⟨HO, R20, L00, L10, L20, G0⟩; try dsimp only
  obtain ⟨_, _, _, _, _⟩ := e; dsimp only
  ihave Ht := (Entails.of_eq (gs_thirds c 0 (redC m c))) $$ G0
  icases Ht with ⟨G00, G01, G02⟩
  iapply (part9 m K c); iframe Hc HO G00 A00; iintro ⟨HO, A00⟩; try dsimp only
  iapply (part10 m K c o); iframe Hc HO G01 A10 G02 A20 P0; iintro %r ⟨HO, A10, A20, P0⟩; try dsimp only
  obtain ⟨_, _, _, _⟩ := r; dsimp only
  iapply (part11 m K c); iframe Hc HO R01; iintro ⟨HO, R01, L01⟩; try dsimp only
  iapply (part12 m K c); iframe Hc HO R11 R21 L01; iintro ⟨HO, R11, R21, L01, L11, L21⟩; try dsimp only
  iapply (part13 m K c g); iframe Hc HO L21 G1 A01; iintro %e ⟨HO, L21, G11, G12, A01⟩; try dsimp only
  obtain ⟨_, _, _, _⟩ := e; dsimp only
  iapply (part14 m K c); iframe Hc HO G11 A11; iintro ⟨HO, A11⟩; try dsimp only
  iapply (part15 m K c o); iframe Hc HO G12 A21 P1 D00; iintro %r ⟨HO, A21, P1, D00, B00⟩; try dsimp only
  obtain ⟨_, _, _⟩ := r; dsimp only
  iapply (part16 m c o); iframe B00 Q00; iintro ⟨B00, Q00⟩; try dsimp only
  iapply (part17 m K c o); iframe Hc HO D10 Q10; iintro ⟨HO, D10, B10, Q10⟩; try dsimp only
  iapply (part18 m K c o); iframe Hc HO D20 Q20; iintro %r ⟨HO, D20, B20, Q20⟩; try dsimp only
  obtain ⟨_, _⟩ := r; dsimp only
  iapply (part19 m K c o); iframe Hc HO D01 Q01; iintro %_ ⟨HO, D01, B01, Q01⟩; try dsimp only
  iapply (part20 m K c o); iframe Hc HO D11 Q11; iintro %r ⟨HO, D11, B11, Q11⟩; try dsimp only
  obtain ⟨_, _, _, _⟩ := r; dsimp only
  iapply (part21 m K c o); iframe Hc HO D21 Q21; iintro ⟨HO, D21, B21, Q21⟩; try dsimp only
  ihave Hs := (Entails.of_eq ((fin4 (fun j : Fin 4 => sentRes (F := F) c j)).symm.trans (sent_outro c))) $$ [S0 S1 S2 S3]
  · iframe S0 S1 S2 S3
  ihave Hs := (Entails.of_eq (each_eq _)) $$ Hs
  icases Hs with ⟨⟨S00, S01⟩, ⟨S10, S11⟩, S20, S21⟩
  iapply (part22 m K c); iframe Hc HO S00 A00 S01; iintro ⟨HO, S00, A00, S01⟩; try dsimp only
  iapply (part23 m K c); iframe Hc HO A01 S10 A10 S11; iintro ⟨HO, A01, S10, A10, S11⟩; try dsimp only
  iapply (part24 m K c); iframe Hc HO A11 S20 A20; iintro ⟨HO, A11, S20, A20⟩; try dsimp only
  iapply (step_drain m K c (0, 2, 1) (sem_rsS rfl) (N_gs 1)) $$ [HO S21]
  · iframe Hc HO S21
  iintro ⟨HO, S21⟩
  iapply (step_drain m K c (2, 2, 1) (sem_agS rfl) (N_gs 1)) $$ [HO A21]
  · iframe Hc HO A21
  iintro ⟨HO, A21⟩
  unfold wpc; rw [wp_ret]
  iapply Hk
  simp only [each_eq]
  unfold drained
  simp only [pay_rsR, pay_agR]
  iframe HO Hx Hr Hw Hch P0 P1 Q00 Q01 Q10 Q11 Q20 Q21 Hat
  iframe S00 S01 S10 S11 S20 S21
  iframe R00 R01 R10 R11 R20 R21 L00 L01 L10 L11 L20 L21
  iframe A00 A01 A10 A11 A20 A21
  iframe D00 D01 D10 D11 D20 D21 B00 B01 B10 B11 B20 B21

end Whole

end Cert.Dispatch

end
-- ==== Proof.Point.lean ====
/-
# The pipeline's one point

What a device starts from and what it ends with, its buffers whole; the body's obligation between the two: the buffers are
cut into the pieces that the body works on, and put together again when it ends, and all of the device's cells are closed.
-/
module

public import proofs.«01_k».proof.Proof.Whole
public import proofs.«01_k».proof.Proof.Gen.KernelIdeal.Points
public import proofs.«01_k».proof.Proof.Gen.KernelIdeal.Launch
public import Idealize.ShloMosaic.Lib.Rounds.Family

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the slots and halves -/

theorem each_prod (Φ : Fin 3 → Fin 2 → sProp 𝕄) : each Φ = bigSep Finset.univ fun p : Fin 3 × Fin 2 => Φ p.1 p.2 := by
  unfold each; rw [bigSep_univ_prod]; exact bigSep_congr fun k _ => (bigSep_univ_two _).symm
theorem each_sep (Φ Ψ : Fin 3 → Fin 2 → sProp 𝕄) : each (fun k s => iprop(Φ k s ∗ Ψ k s)) = iprop(each Φ ∗ each Ψ) := by
  simp only [each_prod]; exact bigSep_sep' _ _ _
theorem each_mono {Φ Ψ : Fin 3 → Fin 2 → sProp 𝕄} (h : ∀ k s, Φ k s ⊢ Ψ k s) : each Φ ⊢ each Ψ := by
  simp only [each_prod]; exact bigSep_mono fun p _ => h p.1 p.2
/-- A device's 25 cells: its barrier's, and the transfers', family by family. -/
theorem cells_split (Φ : CK → sProp 𝕄) : bigSep Finset.univ Φ
    = iprop(Φ none ∗ (each fun k s => Φ (some (0, k, s))) ∗ (each fun k s => Φ (some (1, k, s))) ∗ (each fun k s => Φ (some (2, k, s))) ∗ each fun k s => Φ (some (3, k, s))) := by
  rw [bigSep_univ_equiv (Equiv.optionEquivSumPUnit DK).symm Φ, BI.bigSep_univ_sum, bigSep_univ_prod]
  simp only [each_prod]
  rw [fin4, show (Finset.univ : Finset PUnit.{1}) = {PUnit.unit} from rfl, bigSep_singleton]
  exact BI.equiv_iff.mp ⟨BI.sep_comm, BI.sep_comm⟩

variable (m : (ℓ : Loc nD τ sig) → Buf (Elt F) ℓ) (K : Dev nD × CK → ℕ)

section Point
variable (c : Dev nD)

/-- What the launch deals a device beside the cells' records: the tokens of the duties that it pays, its positions, the credit of its waits. -/
def ownRes : sProp 𝕄 :=
  iprop((bigSep Finset.univ fun d : Fin 3 => dutyTok ER (barCell (nx c d)) 0 d.rev)
    ∗ (cred (tallyAt (barCell c) () 3) ∗ atPos ER (barCell c) 0 ∅ 0) ∗ each (toks c 0 1) ∗ each (toks c 2 3)
    ∗ (each fun k s => wres c (1, k, s)) ∗ each fun k s => wres c (3, k, s))
def start : sProp 𝕄 := iprop((∃ K, ctx m K) ∗ ownRes (F := F) c)

/-- The four buffers that no window stages, at any contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ : sProp 𝕄 := iprop(start m c ∗ scr (F := F) c)
def Φ₁ : sProp 𝕄 := iprop(scr (F := F) c ∗ bigSep Finset.univ fun q : CK => semVal (kcell (c, q)) 0)

/-- The landing buffers are the landing slots; -/
theorem landings (f : Buf (Elt F) ((c : Thread nD τ).loc cc0_scratch1)) (g : Buf (Elt F) ((c : Thread nD τ).loc cc0_scratch3)) :
    iprop((((c : Thread nD τ).loc cc0_scratch1) ↦{fullShare} f) ∗ (((c : Thread nD τ).loc cc0_scratch3) ↦{fullShare} g))
      ⊢ bigSep Finset.univ fun k : Fin 3 => landing (F := F) c k := by
  rw [rc_pieces, gc_pieces, ← each_prod fun k s => rcP c k s f, ← each_prod fun k s => gcP c k s g]
  unfold each
  rw [← bigSep_sep']
  refine bigSep_mono fun k _ => show (_ : sProp 𝕄) ⊢ _ from ?_
  unfold landing
  iintro ⟨⟨H0, H1⟩, G0, G1⟩
  isplitl [H0 H1]
  · isplitl [H0] <;> (iexists f; iassumption)
  · isplitl [G0] <;> (iexists g; iassumption)

/-- with the barriers' duties they are what the signals hand over. -/
theorem signals : iprop((bigSep Finset.univ fun d : Fin 3 => dutyTok ER (barCell (nx c d)) 0 d.rev) ∗ bigSep Finset.univ fun k : Fin 3 => landing (F := F) c k)
    ⊢ bigSep Finset.univ fun d : Fin 3 => sigRes (F := F) c d := by
  rw [bigSep_univ_equiv Fin.revPerm fun k : Fin 3 => landing (F := F) c k, ← bigSep_sep']
  exact bigSep_mono fun d _ => BI.Entails.refl _

/-- The body's start; -/
theorem body_in (f g o) :
    iprop((xP m c ∗ rP m c ∗ wP m c) ∗ ownRes (F := F) c ∗ (((c : Thread nD τ).loc cc0_scratch0) ↦{fullShare} f) ∗ (bigSep Finset.univ fun k : Fin 3 => landing (F := F) c k)
        ∗ (((c : Thread nD τ).loc cc0_scratch2) ↦{fullShare} g) ∗ (((c : Thread nD τ).loc cc0_stg3_0) ↦{fullShare} o))
      ⊢ bodyIn m c f g o := by
  unfold ownRes bodyIn
  rw [st_chunks, gs_halves, out_pieces, around_pv c fun j => iprop(outP c j 0 o ∗ outP c j 1 o)]
  unfold each
  iintro ⟨Hin, ⟨Ht, Hb, HT, HA, HR, HG⟩, Hst, Hl, Hgs, Ho⟩
  ihave Hs := (signals c) $$ [Ht Hl]
  · iframe Ht Hl
  iframe Hin Hs Hst Hgs Ho Hb HT HA HR HG

/-- its end. -/
theorem body_out :
    bodyOut m c ⊢ iprop((xP m c ∗ rP m c ∗ wP m c) ∗ (((c : Thread nD τ).loc cc0_stg3_0) ↦{fullShare} outC m) ∗ scr (F := F) c
      ∗ bigSep Finset.univ fun q : CK => atPos ER (kcell (c, q)) 1 ∅ 0) := by
  unfold bodyOut drained
  simp only [pay_rsS, pay_rsR, pay_agS, pay_agR, each_sep]
  rw [cells_split]
  iintro ⟨Hin, Hch, Ho, Hb, ⟨W0, S⟩, ⟨W1, R⟩, ⟨W2, G⟩, W3, B⟩
  iframe Hin
  isplitl [Ho]
  · rw [out_pieces, around_pv c]; unfold each; iexact Ho
  isplitl [Hch S R G B]
  · unfold scr
    isplitl [Hch S]
    · iexists (stageAt m c)
      rw [st_chunks, around_nx c]
      iframe Hch
      simp only [chunk_halves]
      unfold each; iexact S
    isplitl [R]
    · iexists (rsC m c)
      rw [rc_pieces, ← each_prod fun k s => rcP c k s (rsC m c)]; iexact R
    isplitl [G]
    · iexists (redC m c)
      rw [gs_halves, gs_thirds, gs_thirds]
      ihave G := (Entails.of_eq (each_eq _)) $$ G
      icases G with ⟨⟨G00, G01⟩, ⟨G10, G11⟩, G20, G21⟩
      iframe G00 G01 G10 G11 G20 G21
    · iexists (agC m c)
      rw [gc_pieces, ← each_prod fun k s => gcP c k s (agC m c)]; iexact B
  iframe Hb W0 W1 W2 W3

/-- All of a device's cells closed, when it has waited on each. -/
theorem close : iprop(ctx m K ∗ bigSep Finset.univ fun q : CK => atPos ER (kcell (c, q)) 1 ∅ 0)
    ⊢ |={Set.univ}=> (bigSep Finset.univ fun q : CK => semVal (kcell (c, q)) 0 : sProp 𝕄) := by
  refine BI.Entails.trans (show (_ : sProp 𝕄) ⊢ bigSep Finset.univ fun q : CK => iprop(cellInv ER (sched m) (K (c, q)) (kcell (c, q)) ∗ atPos ER (kcell (c, q)) 1 ∅ 0) from ?_)
    (Rounds.cells_close ER (sched m) Finset.univ (fun q : CK => kcell (c, q)) (fun q => K (c, q)) (fun _ _ => Set.mem_univ _) (fun _ _ h => h) (fun _ => 1)
      (fun q _ => duties_later m (kcell (c, q))))
  refine (sep_mono_left (BI.bigSep_of_persistent (Finset.univ : Finset CK) (ctx m K))).trans ?_
  rw [← bigSep_sep']
  exact bigSep_mono fun q _ => sep_mono_left (ctx_inv m K (c, q))

/-! ## The pipeline's proof data -/

/-- What the pipeline moves: the staged inputs keep their contents, the staged result ends at the result, and the device owes nothing at the end. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => wstg m c
    | ⟨3, _⟩ => outC m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost : sProp 𝕄 :=
  iprop(Φ₁ (F := F) c ∗ (dats m 0 c).owesAt () t0_0.succ ∗ stg c cc0_stg0_0 (xstg m c) ∗ stg c cc0_stg1_0 (rstg m c) ∗ stg c cc0_stg2_0 (wstg m c) ∗ stg c cc0_stg3_0 (outC m))

theorem before_0 (d) : (dats m 0 c).before (0 : Fin 4) t0_0 d = xstg m c := by unfold Dat.before; rw [if_pos (fetch0_0 t0_0)]; rfl
theorem before_1 (d) : (dats m 0 c).before (1 : Fin 4) t0_0 d = rstg m c := by unfold Dat.before; rw [if_pos (fetch0_1 t0_0)]; rfl
theorem before_2 (d) : (dats m 0 c).before (2 : Fin 4) t0_0 d = wstg m c := by unfold Dat.before; rw [if_pos (fetch0_2 t0_0)]; rfl

/-- The body, from `bodyPre` to `bodyPost`. -/
theorem sound_body : bodyPre m c ⊢ wpc c (at' (cc0_body (F := F))) fun _ => bodyPost m c := by
  unfold bodyPre Φ₀ start scr Dat.owesAt Pipeline.owesWithin
  rw [show (dats m 0 c).owed t0_0.castSucc = O₀ c from rfl]
  simp only [before_0, before_1, before_2]
  iintro ⟨⟨⟨⟨%K, #Hc⟩, Hown⟩, ⟨%f, Hst⟩, ⟨%f1, Hrc⟩, ⟨%g, Hgs⟩, ⟨%g1, Hgc⟩⟩, ⟨%W, %hW, HO⟩, ⟨%_, %x, %hx, Hx⟩, ⟨%_, %r, %hr, Hr⟩, ⟨%_, %w, %hw, Hw⟩, ⟨%_, %o, %ho, Ho⟩⟩
  subst hx hr hw
  ihave Hl := (landings c f1 g1) $$ [Hrc Hgc]
  · iframe Hrc Hgc
  ihave Hin := (body_in m c f g o) $$ [Hx Hr Hw Hown Hst Hl Hgs Ho]
  · iframe Hx Hr Hw Hown Hst Hl Hgs Ho
  iapply (whole m K c f g o)
  iframe Hc Hin
  isplitl [HO]
  · unfold ow; iexists W; iexact HO
  unfold ow
  iintro ⟨⟨%W', HO⟩, Hout⟩
  ihave Hout := (body_out m c) $$ Hout
  icases Hout with ⟨⟨Hx, Hr, Hw⟩, Ho, Hscr, Hat⟩
  imod (close m K c) $$ [Hat] with Hz
  · iframe Hc Hat
  imodintro
  unfold bodyPost Φ₁ Dat.owesAt Pipeline.owesWithin
  rw [show (dats m 0 c).owed t0_0.succ = 0 from rfl]
  iframe Hscr Hz
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Ho

set_option maxRecDepth 4000 in
/-- The pipeline's obligation on the body, on device `c`. -/
theorem body_obligation : BodyObligation (dats (F := F) m 0 c) (defs₀ (F := F)) 𝒱₀ () Set.univ := fun t => by
  rw [fin_N0 t]
  rw [bigSep_W0, bigSep_W0]
  simp only [owns_whole_eq]
  exact sound_body m c

end Point

end Cert.Dispatch

end
-- ==== Proof.Launch.lean ====
/-
# The launch

The cells' records and the tokens of the duties are minted, the tokens are dealt to the devices that pay the duties, the
credit of what is owed goes to the devices that wait for it; then the run of `main` on the four devices, over any float values.
-/
module

public import proofs.«01_k».proof.Proof.Point
public import Idealize.ShloMosaic.Lib.Pipeline.CollectiveSegs

@[expose] public section

noncomputable section

namespace Cert.Dispatch

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The cells and the tokens -/

/-- The kernel's own semaphores: the transfers'. -/
abbrev osem (d : DK) : SemLoc sig := .dma (ds d)
theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := semOf_inj (congrArg Prod.snd h)
  rw [h1, h2]
def theCells : Finset (GSem nD τ sig) := Finset.univ.map ⟨kcell, kcell_injective⟩

/-- The duties of a device's cells: its barrier's three, one of each transfer's. -/
abbrev tokOf (cj : Dev nD × (Fin 3 ⊕ DK)) : GSem nD τ sig × ℕ × Fin 3 := match cj.2 with
  | .inl d => (barCell cj.1, 0, d) | .inr d => (dCell cj.1 d, 0, 0)
theorem tokOf_injective : Function.Injective tokOf := by
  rintro ⟨c, j⟩ ⟨c', j'⟩ h
  have h1 : c = c' := by
    have := congrArg (fun x : GSem nD τ sig × ℕ × Fin 3 => x.1.1.1) h
    rcases j with j | j <;> rcases j' with j' | j' <;> exact this
  have h2 : j = j' := by
    have h3 := congrArg (fun x : GSem nD τ sig × ℕ × Fin 3 => (kindOf x.1.2, x.2.2)) h
    rcases j with j | j <;> rcases j' with j' | j' <;> simp only [tokOf, kindOf_bar, kindOf_ds, Prod.mk.injEq, Option.some.injEq, reduceCtorEq, false_and, and_true, true_and] at h3
    · rw [h3]
    · rw [h3]
  rw [h1, h2]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The duty tokens of device `c`'s own cells. -/
def ownToks (c : Dev nD) : sProp 𝕄 :=
  iprop((bigSep Finset.univ fun d : Fin 3 => dutyTok ER (barCell c) 0 d) ∗ bigSep Finset.univ fun d : DK => dutyTok ER (dCell c d) 0 0)

/-- What the launch element deals device `c`; -/
def G (c : Dev nD) : sProp 𝕄 :=
  iprop((bigSep Finset.univ fun q : CK => roundState ER (sched m) (kcell (c, q)) 0)
    ∗ (bigSep Finset.univ fun q : CK => iprop(atPos ER (kcell (c, q)) 0 ∅ 0 ∗ reached ER (kcell (c, q)) 0)) ∗ ownToks c)

theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun q : CK => Φ (kcell (c, q)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    exact bigSep_congr fun c _ => by unfold ownToks; rw [BI.bigSep_univ_sum]; rfl
  iintro HX
  imod (Rounds.fund ER (sched m) theCells theToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe Hst' Hat' Hr' Htok'

theorem bigSep_option (Φ : CK → sProp 𝕄) : bigSep Finset.univ Φ = iprop((bigSep Finset.univ fun d : DK => Φ (some d)) ∗ Φ none) := by
  rw [bigSep_univ_equiv (Equiv.optionEquivSumPUnit DK).symm Φ, BI.bigSep_univ_sum, show (Finset.univ : Finset PUnit.{1}) = {PUnit.unit} from rfl, bigSep_singleton]
  rfl

/-- The barrier's semaphore is the launch's one unscoped semaphore; -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- with the kernel's own they are the device's cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun q : CK => semVal (kcell (c, q)) 0 : sProp 𝕄) := by
  rw [unscopedSems0_eq, bigSep_option]; rfl

/-- Each cell of a device gets its record. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun q : CK => iprop(∃ κ : ℕ, cellInv ER (sched m) κ (kcell (c, q))))
          ∗ (bigSep Finset.univ fun q : CK => iprop(atPos ER (kcell (c, q)) 0 ∅ 0 ∗ reached ER (kcell (c, q)) 0)) ∗ ownToks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun q : CK => semVal (kcell (c, q)) 0) ∗ bigSep Finset.univ fun q : CK => roundState ER (sched m) (kcell (c, q)) 0)
      ⊢ (|={Set.univ}=> bigSep Finset.univ fun q : CK => iprop(∃ κ : ℕ, cellInv ER (sched m) κ (kcell (c, q))) : sProp 𝕄) from by
        rw [← bigSep_sep']
        exact (bigSep_mono fun q _ => (Rounds.body_intro ER (sched m) (kcell (c, q))).trans inv_alloc).trans (bigSep_fupd _ _)) $$ [Hv Hst] with Hinv
  · isplitl [Hv] <;> iassumption
  imodintro
  iframe Hinv Hat Htok

/-! ## The tokens, dealt to the devices that pay -/

/-- What stays with device `c`: its positions, and the tokens of the duties that it pays. -/
def linear (c : Dev nD) : sProp 𝕄 :=
  iprop((bigSep Finset.univ fun d : Fin 3 => dutyTok ER (barCell (nx c d)) 0 d.rev)
    ∗ atPos ER (barCell c) 0 ∅ 0 ∗ each (toks c 0 1) ∗ each (toks c 2 3)
    ∗ (each fun k s => atPos ER (dCell c (1, k, s)) 0 ∅ 0) ∗ each fun k s => atPos ER (dCell c (3, k, s)) 0 ∅ 0)

/-- A family over the devices and the slots, each term taken at the device that the slot leads to. -/
theorem around_all (Φ : Dev nD → Fin 3 → sProp 𝕄) :
    (bigSep Finset.univ fun c : Dev nD => bigSep Finset.univ fun k : Fin 3 => Φ c k) = bigSep Finset.univ fun c : Dev nD => bigSep Finset.univ fun k : Fin 3 => Φ (nx c k) k := by
  rw [← bigSep_univ_prod (fun p : Dev nD × Fin 3 => Φ p.1 p.2), ← bigSep_univ_prod (fun p : Dev nD × Fin 3 => Φ (nx p.1 p.2) p.2)]
  exact bigSep_univ_equiv (⟨fun p => (nx p.1 p.2, p.2), fun p => (pv p.1 p.2, p.2), fun p => Prod.ext (pv_nx p.1 p.2) rfl, fun p => Prod.ext (nx_pv p.1 p.2) rfl⟩ : Dev nD × Fin 3 ≃ Dev nD × Fin 3) _

theorem toks_around : (bigSep Finset.univ fun c : Dev nD => (ownToks c : sProp 𝕄)) = bigSep Finset.univ fun c : Dev nD =>
    iprop((bigSep Finset.univ fun d : Fin 3 => dutyTok ER (barCell (nx c d)) 0 d.rev) ∗ (each fun k s => dutyTok ER (dCell c (0, k, s)) 0 0)
      ∗ (each fun k s => dutyTok ER (dCell (nx c k) (1, k, s)) 0 0) ∗ (each fun k s => dutyTok ER (dCell c (2, k, s)) 0 0)
      ∗ each fun k s => dutyTok ER (dCell (nx c k) (3, k, s)) 0 0) := by
  have h (c : Dev nD) : (ownToks c : sProp 𝕄) = iprop((bigSep Finset.univ fun d : Fin 3 => dutyTok ER (barCell c) 0 d.rev) ∗ (each fun k s => dutyTok ER (dCell c (0, k, s)) 0 0)
      ∗ (each fun k s => dutyTok ER (dCell c (1, k, s)) 0 0) ∗ (each fun k s => dutyTok ER (dCell c (2, k, s)) 0 0)
      ∗ each fun k s => dutyTok ER (dCell c (3, k, s)) 0 0) := by
    unfold ownToks
    rw [bigSep_univ_equiv Fin.revPerm fun d : Fin 3 => dutyTok ER (barCell c) 0 d, bigSep_univ_prod, fin4]
    simp only [each_prod]; rfl
  simp only [h, bigSep_sep']
  unfold each
  rw [around_all fun c d => dutyTok ER (barCell c) 0 d.rev, around_all fun c k => iprop(dutyTok ER (dCell c (1, k, 0)) 0 0 ∗ dutyTok ER (dCell c (1, k, 1)) 0 0),
    around_all fun c k => iprop(dutyTok ER (dCell c (3, k, 0)) 0 0 ∗ dutyTok ER (dCell c (3, k, 1)) 0 0)]

theorem linear_intro (c : Dev nD) :
    iprop((bigSep Finset.univ fun q : CK => atPos ER (kcell (c, q)) 0 ∅ 0)
      ∗ (bigSep Finset.univ fun d : Fin 3 => dutyTok ER (barCell (nx c d)) 0 d.rev) ∗ (each fun k s => dutyTok ER (dCell c (0, k, s)) 0 0)
      ∗ (each fun k s => dutyTok ER (dCell (nx c k) (1, k, s)) 0 0) ∗ (each fun k s => dutyTok ER (dCell c (2, k, s)) 0 0)
      ∗ each fun k s => dutyTok ER (dCell (nx c k) (3, k, s)) 0 0) ⊢ (linear c : sProp 𝕄) := by
  unfold linear
  rw [cells_split]
  have h (t t' : Fin 4) : each (toks (F := F) c t t') = iprop((each fun k s => dutyTok ER (dCell c (t, k, s)) 0 0) ∗ (each fun k s => dutyTok ER (dCell (nx c k) (t', k, s)) 0 0)
      ∗ each fun k s => atPos ER (dCell c (t, k, s)) 0 ∅ 0) := by
    rw [← each_sep, ← each_sep]; rfl
  rw [h, h]
  iintro ⟨⟨Hb, A0, A1, A2, A3⟩, T, T0, T1, T2, T3⟩
  iframe Hb A0 A1 A2 A3 T T0 T1 T2 T3

theorem regroup :
    (bigSep Finset.univ fun c : Dev nD => iprop((bigSep Finset.univ fun q : CK => iprop(∃ κ : ℕ, cellInv ER (sched m) κ (kcell (c, q))))
          ∗ (bigSep Finset.univ fun q : CK => iprop(atPos ER (kcell (c, q)) 0 ∅ 0 ∗ reached ER (kcell (c, q)) 0)) ∗ ownToks c) : sProp 𝕄)
      ⊢ bigSep Finset.univ fun c => iprop((∃ K, records m K) ∗ linear (F := F) c) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun q : CK => (atPos ER (kcell (c, q)) 0 ∅ 0 : sProp 𝕄)) (fun q => reached ER (kcell (c, q)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  iapply ((sep_mono_left (BI.bigSep_of_persistent (Finset.univ : Finset (Dev nD)) (records m K))).trans
    (by rw [← bigSep_sep']; exact bigSep_mono fun c _ => show (_ : sProp 𝕄) ⊢ iprop((∃ K, records m K) ∗ linear (F := F) c) from by
          iintro ⟨Hr, Hl⟩
          isplitl [Hr]; · iexists K; iexact Hr
          iapply (linear_intro c); iexact Hl))
  isplitr
  · unfold records; isplitl; · iexact HI
    iexact HR
  · simp only [bigSep_sep']
    iframe Hat
    iexact Htok

/-- The records and the tokens of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop((∃ K, records m K) ∗ linear (F := F) c) :=
  ((bigSep_mono fun c _ => core_alloc m c).trans (bigSep_fupd _ _)).trans (BI.fupd_mono (regroup m))

/-! ## The credit -/

/-- What a device owes in all, gathered by kind: its barrier signals, the reduce-scatter's landings, the all-gather's. -/
theorem O₀_eq (c : Dev nD) : O₀ c = (∑ k : Fin 3, TB c k) + ((∑ k : Fin 3, (TR c k 0 + TR c k 1)) + ∑ k : Fin 3, (TA c k 0 + TA c k 1)) := by
  have h := TC_sum c
  have h1 : O₀ c = OA c + (((TC c 3 + TC c 2) + TC c 1) + TC c 0) + ((TB c 0 + TB c 1) + TB c 2) := by unfold O₀ O₁; abel
  rw [h1, h]
  unfold OA OA1
  simp only [Fin.sum_univ_three]
  abel

/-- A device is dealt the credit of its waits: three units of its barrier, half a chunk for each landing. -/
theorem creds (c : Dev nD) : (Pipeline.launchCred O₀ c : sProp 𝕄)
    ⊢ iprop(cred (tallyAt (barCell c) () 3) ∗ (each fun k s => cred (tallyAt (dCell c (1, k, s)) () N)) ∗ each fun k s => cred (tallyAt (dCell c (3, k, s)) () N)) := by
  have hd (sm : SemLoc sig) (k : Fin 3) (n : ℕ) : (Pipeline.launchCred (fun d => tallyAt ((nx d k : Thread nD τ), sm) () n) c : sProp 𝕄) ⊢ cred (tallyAt ((c : Thread nD τ), sm) () n) :=
    Pipeline.launchCred_tallyAt sm (fun d => nx d k) (fun d => pv d k) (fun d => nx_pv d k) (fun d => pv_nx d k) () n c
  have hb : (bigSep Finset.univ fun k : Fin 3 => Pipeline.launchCred (fun d => TB d k) c : sProp 𝕄) ⊢ cred (tallyAt (barCell c) () 3) := by
    refine (bigSep_mono fun k _ => hd (.reg barS) k 1).trans ?_
    rw [fin3, show (tallyAt (barCell c) () 3 : CellTallies nD τ sig Unit) = tallyAt (barCell c) () 1 + (tallyAt (barCell c) () 1 + tallyAt (barCell c) () 1) from by
      rw [tallyAt_add, tallyAt_add]]
    exact (BI.sep_mono_r (cred_add _ _).2).trans (cred_add _ _).2
  have hx (t : Fin 4) : (bigSep Finset.univ fun k : Fin 3 => Pipeline.launchCred (fun d => tallyAt (dCell (nx d k) (t, k, 0)) () N + tallyAt (dCell (nx d k) (t, k, 1)) () N) c : sProp 𝕄)
      ⊢ each fun k s => cred (tallyAt (dCell c (t, k, s)) () N) :=
    bigSep_mono fun k _ => by
      rw [Pipeline.launchCred_add]
      exact BI.sep_mono (hd (.dma (ds (t, k, 0))) k N) (hd (.dma (ds (t, k, 1))) k N)
  rw [show (O₀ : Dev nD → CellTallies nD τ sig Unit) = fun c => (∑ k : Fin 3, TB c k) + ((∑ k : Fin 3, (TR c k 0 + TR c k 1)) + ∑ k : Fin 3, (TA c k 0 + TA c k 1)) from funext O₀_eq,
    Pipeline.launchCred_add, Pipeline.launchCred_add, Pipeline.launchCred_sum, Pipeline.launchCred_sum, Pipeline.launchCred_sum]
  exact BI.sep_mono hb (BI.sep_mono (hx 1) (hx 3))

/-! ## The launch theorem's conditions -/

/-- The launch gives each device what its body starts from; the routing weights, which no window stages, stay aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ((∃ K, records m K) ∗ linear (F := F) c))
      ⊢ |={Set.univ}=> iprop(start m c ∗ (((c : Thread nD τ).loc main_arg1) ↦{fullShare} m ((c : Thread nD τ).loc main_arg1))) := by
  rw [Pipeline.unscopedRestP_none, unscopedRest0_eq]
  iintro ⟨Ha, Hlev, Hcr, -, ⟨%K, Hr⟩, Hl⟩
  ihave Hc := (creds (F := F) c) $$ Hcr
  icases Hc with ⟨Hcb, Hc1, Hc3⟩
  imodintro
  iframe Ha
  unfold start linear ownRes
  icases Hl with ⟨Hb, Hat, HT, HA, A1, A3⟩
  isplitl [Hr Hlev]
  · iexists K; unfold ctx; iframe Hr Hlev
  unfold wres
  rw [each_sep, each_sep]
  iframe Hb Hcb Hat HT HA Hc1 A1 Hc3 A3

/-- With its scratch buffers a device has what its body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  iframe Hs Hr

/-- What the body leaves: every semaphore at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁ scr
  rw [← sems0_eq]
  iintro ⟨Hr, Ho, Hu⟩
  iframe Hu Ho Hr

/-- The staging transfers' waits are below everything a device owes. -/
theorem waits (c : Dev nD) : (levAts L lv : sProp 𝕄) ⊢ Pipeline.cellsWaits cfgs (dats m) () 0 c :=
  Pipeline.cellsWaits_intro cfgs (dats m) () 0 c fun w s t =>
    mayWait 0 c _ _ (by fin_cases w <;> fin_cases s <;> revert c <;> decide) (by
      rcases t with ⟨_ | _, ht⟩
      · exact above_O₀ (by decide) c
      · exact above_zero 0)

/-! ## The run -/

/-- What a window's array holds after the run. -/
def finalA (c : Dev nD) (w : Fin cfg0.W) : Buf (Elt F) ((cfg0.win w).arr.view.loc (c : Thread nD τ)) := (dats m 0 c).arrAt w cfg0.N

/-- After the run: every window's array, and the routing weights as they were. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- From any memory with zero counters, over any float values: every weakly fair execution of `main` on the four devices
    terminates, with the result in place, the arguments unchanged and every semaphore's counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := fun c => iprop((∃ K, records m K) ∗ linear (F := F) c)) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun c => (((c : Thread nD τ).loc main_arg1) ↦{fullShare} m ((c : Thread nD τ).loc main_arg1)))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Ha, HSI⟩
      icombine HSI Ha gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      · iexact HSI)
    (hQ := fun _ h hs => ⟨fun c => ⟨(h c).1, (h c).2.2.2⟩, sem_eq_zero hs fun c => (h c).2.2.1⟩)

/-- The staged arguments after the run hold what they held. -/
theorem finalA_in (c : Dev nD) (w : Fin 4) (h : w ≠ 3) : finalA m c w = m ((cfg0.win w).arr.view.loc (c : Thread nD τ)) := by
  have h3 : w = 0 ∨ w = 1 ∨ w = 2 := by revert w; decide
  rcases h3 with rfl | rfl | rfl
  · exact (dats (F := F) m 0 c).arrAt_in (0 : Fin 4) rfl _
  · exact (dats (F := F) m 0 c).arrAt_in (1 : Fin 4) rfl _
  · exact (dats (F := F) m 0 c).arrAt_in (2 : Fin 4) rfl _

/-- The result's window has one block, the whole array. -/
theorem emb_out (t : Fin cfg0.N) (i : S512x512.Idx) : (win0_3.blk t).view.emb i = i := by
  obtain rfl := fin_N0 t
  funext a
  apply Fin.ext
  fin_cases a <;> exact (Nat.zero_add _).trans (Nat.one_mul _)

/-- The result's array after the run, on every device. -/
theorem finalA_out (c : Dev nD) : finalA m c (3 : Fin 4) = outC m :=
  (dats (F := F) m 0 c).arrAt_eq_of_cover (3 : Fin 4) (outC m)
    (fun t _ => by
      obtain rfl := fin_N0 t
      have ha : (dats (F := F) m 0 c).after (3 : Fin 4) t0_0 = outC m := by dsimp only [dats]
      unfold Pipeline.Dat.flushed
      rw [ha]
      funext i
      exact (congrArg (outC m) (emb_out t0_0 i)).symm)
    (fun i => ⟨t0_0, flush0_3 _, by
      have h := (win0_3.blk t0_0).view.emb_mem_set i
      rw [emb_out] at h
      exact h⟩)

/-- What a run leaves of the arguments. -/
theorem args_of_QC {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (0 : Fin 4)).trans (finalA_in m c 0 (by decide)), (h c).2, ((h c).1 (1 : Fin 4)).trans (finalA_in m c 1 (by decide)),
    ((h c).1 (2 : Fin 4)).trans (finalA_in m c 2 (by decide))⟩

/-- The frame, over any float values. -/
theorem frame_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨args_of_QC m h.1, h.2⟩) (run_main m ρ)

/-- And of the result: on every device the same array. -/
theorem result_of_QC {r : PUnit × MemSt nD τ sig (Elt F)} (h : QC m r) (c : Dev nD) : r.2.mem ((c : Thread nD τ).loc main_v1) = outC m :=
  ((h c).1 (3 : Fin 4)).trans (finalA_out m c)

end Cert.Dispatch

end
-- ==== Proof.Moe.lean ====
/-
  The mathematics of the dispatch over the extended reals: a token times the weights of the one expert its route names is
  the sum, over the four devices and the two experts of each, of the masked token times that expert's weights. And the
  precondition, read at a token: its route is the word of a number below 8.
-/
module

public import proofs.«01_k».proof.Pre_routes_in_range_KernelIdeal
public import proofs.«01_k».proof.Pre_routes_in_range_ReferenceIdeal
public import Idealize.ShloMosaic.Lib.Pointwise
public import Idealize.ShloMosaic.Lib.ReduceAll
public import Idealize.ShloMosaic.Lib.Affine
public import Idealize.ShloMosaic.Lib.Layout

@[expose] public section

noncomputable section

namespace Cert.Moe

open Idealize.ShloMosaic

/-- Arrays of tokens, of routes, of all eight experts' weights. -/
abbrev X : Shape := ⟨2, ![512, 256]⟩
abbrev R : Shape := ⟨2, ![512, 1]⟩
abbrev W : Shape := ⟨3, ![8, 256, 512]⟩

variable (x : X.Idx → EReal) (rt : R.Idx → BitVec 32) (w : W.Idx → EReal)

/-- Expert `v`'s part of the result at token `n`, column `h`: the token, if routed to `v`, else zero, times `v`'s weights. -/
def part (v : Fin 8) (n h : Fin 512) : EReal :=
  ∑ k : Fin 256, (if rt (ix2 n 0) = BitVec.ofNat 32 v.val then x (ix2 n k) else 0) * w (ix3 v k h)

/-- Token `n` times expert `v`'s weights, at column `h`. -/
def prod (v : Fin 8) (n h : Fin 512) : EReal := ∑ k : Fin 256, x (ix2 n k) * w (ix3 v k h)

set_option backward.proofsInPublic true in
/-- Expert `e` of device `c`, among the eight. -/
def expert (c : Fin 4) (e : Fin 2) : Fin 8 := ⟨2 * c.val + e.val, by have := c.isLt; have := e.isLt; omega⟩

/-- The part of an expert is the product if the token is routed to it, else zero. -/
theorem part_eq (r v : Fin 8) (n h : Fin 512) (hr : rt (ix2 n 0) = BitVec.ofNat 32 r.val) :
    part x rt w v n h = if r = v then prod x w v n h else 0 := by
  have e : (rt (ix2 n 0) = BitVec.ofNat 32 v.val) ↔ r = v := by rw [hr]; clear hr; revert r v; decide
  unfold part prod
  by_cases h' : r = v
  · simp only [e.2 h', h', if_true]
  · simp only [mt e.1 h', h', if_false, zero_mul, Finset.sum_const_zero]

/-- The experts' parts, added up device by device, are the product with the expert the route names. -/
theorem sum_parts (r : Fin 8) (n h : Fin 512) (hr : rt (ix2 n 0) = BitVec.ofNat 32 r.val) :
    (∑ c : Fin 4, (part x rt w (expert c 0) n h + part x rt w (expert c 1) n h)) = prod x w r n h := by
  have h8 : (∑ c : Fin 4, (part x rt w (expert c 0) n h + part x rt w (expert c 1) n h)) = ∑ v : Fin 8, part x rt w v n h := by
    rw [Fin.sum_univ_four, Fin.sum_univ_eight]
    show ((part x rt w 0 n h + part x rt w 1 n h) + (part x rt w 2 n h + part x rt w 3 n h) + (part x rt w 4 n h + part x rt w 5 n h)
      + (part x rt w 6 n h + part x rt w 7 n h)) = _
    ac_rfl
  rw [h8, Finset.sum_congr rfl fun v _ => part_eq x rt w r v n h hr, Finset.sum_ite_eq, if_pos (Finset.mem_univ _)]

/-- A word at least 0 and below 8, read signed, is the word of a number below 8. -/
theorem word_of_range (v : BitVec 32) (h0 : IntOp.cmpi .sge v 0#32 = 1#1) (h8 : IntOp.cmpi .slt v 8#32 = 1#1) :
    ∃ r : Fin 8, v = BitVec.ofNat 32 r.val := by
  have e0 := IntOp.cmpi_sge.1 h0
  have e8 := IntOp.cmpi_slt.1 h8
  have l : (8#32 : BitVec 32).toInt = 8 := by decide
  have l0 : (0#32 : BitVec 32).toInt = 0 := by decide
  rw [l] at e8
  rw [l0] at e0
  rw [BitVec.toInt_eq_toNat_cond] at e0 e8
  have hv := v.isLt
  have hN : v.toNat < 8 := by split at e0 <;> split at e8 <;> omega
  exact ⟨⟨v.toNat, hN⟩, by simp⟩

/-- Four devices' two experts each are the eight. -/
theorem tiles : Layout.Tiles ⟨3, ![2, 256, 512]⟩ ⟨3, ![8, 256, 512]⟩ 0 4 := by decide

/-- The shapes of the precondition fit. -/
theorem facts_kernel : Cert.Pre_routes_in_range_KernelIdeal.Facts := ⟨by decide, by decide, by decide⟩
theorem facts_reference : Cert.Pre_routes_in_range_ReferenceIdeal.Facts := ⟨by decide, by decide, by decide⟩

/-- What the precondition says of a token: its route is one of the eight experts. -/
theorem route_of_pre [Cert.Pre_routes_in_range_KernelIdeal.Facts] (a0 : FVec Ideal Cert.Pre_routes_in_range_KernelIdeal.S512x256 .bf16)
    (a1 : FVec Ideal Cert.Pre_routes_in_range_KernelIdeal.S256x8 .bf16) (a2 : IVec Cert.Pre_routes_in_range_KernelIdeal.S512x1 32)
    (a3 : FVec Ideal Cert.Pre_routes_in_range_KernelIdeal.S2x256x512 .bf16)
    (h : Cert.Pre_routes_in_range_KernelIdeal.fn (F := Ideal) a0 a1 a2 a3 = fun _ => 1#1) (n : Fin 512) :
    ∃ r : Fin 8, a2 (ix2 n 0) = BitVec.ofNat 32 r.val := by
  dsimp only [Cert.Pre_routes_in_range_KernelIdeal.fn] at h
  have h' := Host.reduce_andi_all _ _ _ _ ix0 (congrFun h ix0) (ix2 n 0)
  have h2 := IntOp.andi_eq_one.1 h'
  exact word_of_range _ h2.1 h2.2

end Cert.Moe

end
-- ==== Proof.KerValue.lean ====
/-
  What the kernel computes, at the extended reals: the result at token `n`, column `h` is the sum over the four devices of
  the parts of the two experts each holds, whatever the routes.
-/
module

public import proofs.«01_k».proof.Proof.Setup
public import proofs.«01_k».proof.Proof.Moe

@[expose] public section

noncomputable section

namespace Cert.KerValue

open Cert.KernelIdeal Cert.KernelIdeal.Gen Cert.Dispatch Idealize.ShloMosaic Idealize.ShloMosaic.TcCoe

variable (m : (ℓ : Loc nD τ sig) → Buf (Elt Ideal) ℓ)

/-- A window's one block is its whole array: what is staged is the argument. -/
theorem xstg_eq (c : Dev nD) : xstg m c = m ((c : Thread nD τ).loc main_arg0) := by
  funext i
  show m ((c : Thread nD τ).loc main_arg0) ((win0_0.blk (0 : Fin 1)).view.emb i) = _
  congr 1
  funext a
  apply Fin.ext
  fin_cases a <;> exact (Nat.zero_add _).trans (Nat.one_mul _)

theorem rstg_eq (c : Dev nD) : rstg m c = m ((c : Thread nD τ).loc main_arg2) := by
  funext i
  show m ((c : Thread nD τ).loc main_arg2) ((win0_1.blk (0 : Fin 1)).view.emb i) = _
  congr 1
  funext a
  apply Fin.ext
  fin_cases a <;> exact (Nat.zero_add _).trans (Nat.one_mul _)

theorem wstg_eq (c : Dev nD) : wstg m c = m ((c : Thread nD τ).loc main_arg3) := by
  funext i
  show m ((c : Thread nD τ).loc main_arg3) ((win0_2.blk (0 : Fin 1)).view.emb i) = _
  congr 1
  funext a
  apply Fin.ext
  fin_cases a <;> exact (Nat.zero_add _).trans (Nat.one_mul _)

set_option backward.proofsInPublic true in
/-- Column `h` of chunk `j` of the result. -/
def col (j : Fin 4) (h : Fin 128) : Fin 512 := ⟨128 * j.val + h.val, by have := j.isLt; have := h.isLt; omega⟩

/-- A loaded block of a device's weights, at an index. -/
theorem wld_apply (c : Dev nD) (e : Fin 2) (j : Fin 4) (k : Fin 256) (h : Fin 128) :
    wld m c e j (ix3 0 k h) = m ((c : Thread nD τ).loc main_arg3) (ix3 e k (col j h)) := by
  unfold wld
  rw [wstg_eq]
  show m ((c : Thread nD τ).loc main_arg3) (wM.view.emb ((wBlk e j).toLoadRect.idx (ix3 0 k h))) = _
  congr 1
  funext a
  apply Fin.ext
  match a with
  | ⟨0, _⟩ => rfl
  | ⟨1, _⟩ => show 0 + 1 * k.val = k.val; omega
  | ⟨2, _⟩ => show 128 * j.val + 1 * h.val = 128 * j.val + h.val; omega

/-- The number of a device's expert, as the kernel computes it. -/
theorem expert_word (c : Dev nD) : Scalar.addi (Scalar.muli (pos c) 2#32) 0#32 = BitVec.ofNat 32 (Moe.expert c 0).val
    ∧ Scalar.addi (Scalar.muli (pos c) 2#32) 1#32 = BitVec.ofNat 32 (Moe.expert c 1).val := by
  revert c; decide

/-- A select on equality of words. -/
theorem select_eq (a b : BitVec 32) (u v : EReal) : Scalar.select (IntOp.cmpi .eq a b) u v = if a = b then u else v := by
  by_cases h : a = b
  · rw [if_pos h, IntOp.cmpi_eq.2 h]; rfl
  · rw [if_neg h]
    have h0 : IntOp.cmpi .eq a b = 0#1 := ValueIdx.eq_zero_of_ne_one (mt IntOp.cmpi_eq.1 h)
    rw [h0]; rfl

/-- A token masked by the device's first expert: itself if routed there, else zero; -/
theorem mask0 (c : Dev nD) (v43 : Vec Ideal S512x1 .i32) (v45 : Vec Ideal S512x256 .bf16) (n : Fin 512) (k : Fin 256) :
    k0_pay3 (F := Ideal) (pos c) v43 v45 (ix2 n k) = if v43 (ix2 n 0) = BitVec.ofNat 32 (Moe.expert c 0).val then v45 (ix2 n k) else (0 : EReal) := by
  rw [← (expert_word c).1]
  pointwise [k0_pay3, k0_pay1, k0_pay2]
  exact select_eq _ _ _ _

/-- and by the second. -/
theorem mask1 (c : Dev nD) (v43 : Vec Ideal S512x1 .i32) (v45 : Vec Ideal S512x256 .bf16) (n : Fin 512) (k : Fin 256) :
    k0_pay4 (F := Ideal) (pos c) v43 v45 (ix2 n k) = if v43 (ix2 n 0) = BitVec.ofNat 32 (Moe.expert c 1).val then v45 (ix2 n k) else (0 : EReal) := by
  rw [← (expert_word c).2]
  pointwise [k0_pay4, k0_pay1, k0_pay2]
  exact select_eq _ _ _ _

/-- A chunk of a partial product is the sum of two block products. -/
theorem chunk_products (a b : FVec Ideal S512x256 .bf16) (u v : Vec Ideal S1x256x128 .bf16) (n : Fin 512) (h : Fin 128) :
    k0_pay8 (F := Ideal) a b u v (ix3 0 n h)
      = (∑ k : Fin 256, a (ix2 n k) * u (ix3 0 k h)) + ∑ k : Fin 256, (b (ix2 n k) * v (ix3 0 k h) : EReal) := by
  pointwise [k0_pay8]

/-- A device, and the three before it, are all the devices. -/
theorem sum_around (f : Fin 4 → EReal) (c : Fin 4) : ((f c + f (pv c 0)) + f (pv c 1)) + f (pv c 2) = ∑ d : Fin 4, f d := by
  rw [Fin.sum_univ_four]
  have hc : c = 0 ∨ c = 1 ∨ c = 2 ∨ c = 3 := by revert c; decide
  rcases hc with rfl | rfl | rfl | rfl
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

section Agree

/-! The arrays the devices' arguments are taken from: the tokens and routes whole, the experts cut in four. -/

variable (x : Moe.X.Idx → EReal) (rt : Moe.R.Idx → BitVec 32) (w : Moe.W.Idx → EReal)
  (hx : ∀ c : Dev nD, m ((c : Thread nD τ).loc main_arg0) = x) (hr : ∀ c : Dev nD, m ((c : Thread nD τ).loc main_arg2) = rt)
  (hw : ∀ c : Dev nD, m ((c : Thread nD τ).loc main_arg3) = Layout.block ⟨3, ![2, 256, 512]⟩ ⟨3, ![8, 256, 512]⟩ 0 4 c w Moe.tiles)
include hx hr hw

/-- The two experts' parts a device computes, at a column of the whole result. -/
theorem stageAt_apply (c : Dev nD) (j : Fin 4) (n : Fin 512) (h : Fin 128) :
    stageAt m c (ix3 j n h) = Moe.part x rt w (Moe.expert c 0) n (col j h) + Moe.part x rt w (Moe.expert c 1) n (col j h) := by
  have hwl (e : Fin 2) (k : Fin 256) : wld m c e j (ix3 0 k h) = w (ix3 (Moe.expert c e) k (col j h)) := by
    rw [wld_apply, hw]
    show w _ = w _
    congr 1
    funext a
    apply Fin.ext
    match a with
    | ⟨0, _⟩ => show c.val * 2 + e.val = 2 * c.val + e.val; omega
    | ⟨1, _⟩ => rfl
    | ⟨2, _⟩ => rfl
  show chunkAt m c j (ix3 0 n h) = _
  unfold chunkAt Moe.part
  rw [chunk_products, xstg_eq, rstg_eq, hx, hr]
  simp only [mask0, mask1, hwl]

/-- What a device adds up: every expert's part, at the columns of its chunk. -/
theorem redC_apply (c : Dev nD) (n : Fin 512) (h : Fin 128) :
    redC m c (ix2 n h) = ∑ d : Fin 4, (Moe.part x rt w (Moe.expert d 0) n (col c h) + Moe.part x rt w (Moe.expert d 1) n (col c h)) := by
  have hs (d : Dev nD) := stageAt_apply m x rt w hx hr hw d c n h
  let f : Fin 4 → EReal := fun d => stageAt m d (ix3 c n h)
  exact (sum_around f c).trans (Finset.sum_congr rfl fun d _ => hs d)

/-- The kernel's result, where the route at `n` names expert `r`. -/
theorem outC_apply (n h : Fin 512) (r : Fin 8) (hn : rt (ix2 n 0) = BitVec.ofNat 32 r.val) : outC m (ix2 n h) = Moe.prod x w r n h := by
  have hj : h.val / 128 < 4 := by have := h.isLt; omega
  have hc : col ⟨h.val / 128, hj⟩ ⟨h.val % 128, Nat.mod_lt _ (by decide)⟩ = h := Fin.ext (by show 128 * (h.val / 128) + h.val % 128 = h.val; omega)
  show redC m ⟨h.val / 128, hj⟩ (ix2 n ⟨h.val % 128, Nat.mod_lt _ (by decide)⟩) = _
  rw [redC_apply m x rt w hx hr hw, hc]
  exact Moe.sum_parts x rt w r n h hn

end Agree

end Cert.KerValue

end
-- ==== Proof.RefValue.lean ====
/-
  What the reference computes, at the extended reals: with every route the word of an expert's number, the result at token
  `n`, column `h` is the token times the weights of the expert its route names.
-/
module

public import proofs.«01_k».proof.Proof.Moe
public import proofs.«01_k».proof.Proof.Gen.ReferenceIdeal
public import proofs.«01_k».proof.Proof.Gen.ReferenceIdeal.Run

@[expose] public section

noncomputable section

namespace Cert.RefValue

open Cert.ReferenceIdeal Cert.ReferenceIdeal.Gen Idealize.ShloMosaic

/-- The reference's gather takes whole experts: at token `n` it reads the expert whose number stands at `n`. -/
theorem gather_expert {α : Type} (w : S8x256x512.Idx → α) (idx : IVec S512x1 32) (n : Fin 512) (k : Fin 256) (h : Fin 512) (r : Fin 8)
    (hr : idx (ix2 n 0) = BitVec.ofNat 32 r.val) :
    Host.gather gather_S8x256x512_S512x1_S512x256x512_12_0_n_n_0_1_1256512 w idx (ix3 n k h) = w (ix3 r k h) := by
  unfold Host.gather
  congr 1
  have hs : gather_S8x256x512_S512x1_S512x256x512_12_0_n_n_0_1_1256512.siIdx (ix3 n k h) ⟨0, by decide⟩ = ix2 n 0 := by
    funext b
    match b with
    | ⟨0, _⟩ => rfl
    | ⟨1, _⟩ => rfl
  have h0 : (idx (ix2 n 0)).toInt.toNat = r.val := by rw [hr]; clear hs hr; revert r; decide
  funext a
  apply Fin.ext
  match a with
  | ⟨0, _⟩ =>
    show min (idx (gather_S8x256x512_S512x1_S512x256x512_12_0_n_n_0_1_1256512.siIdx (ix3 n k h) ⟨0, _⟩)).toInt.toNat 7 + 0 + 0 = r.val
    rw [hs, h0]
    omega
  | ⟨1, _⟩ => show 0 + 0 + k.val = k.val; omega
  | ⟨2, _⟩ => show 0 + 0 + h.val = h.val; omega

variable (x : FVec Ideal S512x256 .bf16) (rt : IVec S512x1 32) (w : FVec Ideal S8x256x512 .bf16)

/-- The routes as the gather reads them: a negative one counts from the end. -/
def routes : IVec S512x1 32 :=
  broadcastInDim S512x1 ![0] bcast_S512_S512x1_0 (select (cmpi .slt (shapeCast S512 rt shapeCasts_S512x1_S512) (broadcastInDim S512 ![] bcast_S_S512 (constantI S_ 32 0#32)))
    (addi (shapeCast S512 rt shapeCasts_S512x1_S512) (broadcastInDim S512 ![] bcast_S_S512 (constantI S_ 32 8#32))) (shapeCast S512 rt shapeCasts_S512x1_S512))

/-- The reference's result. -/
def out : FVec Ideal S512x512 .bf16 :=
  truncf .bf16 (Host.dotGeneral dot_S512x256_S512x256x512_S512x512_1_1_n_2_0_0 none (extf .f32 x bitsLt_bf16_f32)
    (extf .f32 (Host.gather gather_S8x256x512_S512x1_S512x256x512_12_0_n_n_0_1_1256512 w (routes rt)) bitsLt_bf16_f32)) bitsLt_bf16_f32

/-- A route that is an expert's number is read as it is. -/
theorem routes_apply (n : Fin 512) (r : Fin 8) (hr : rt (ix2 n 0) = BitVec.ofNat 32 r.val) : routes rt (ix2 n 0) = BitVec.ofNat 32 r.val := by
  have h0 : IntOp.cmpi .slt (BitVec.ofNat 32 r.val) 0#32 = 0#1 := by clear hr; revert r; decide
  pointwise [routes]
  rw [hr, h0]
  rfl

/-- The reference's result, where the route at `n` names expert `r`. -/
theorem out_apply (n h : Fin 512) (r : Fin 8) (hr : rt (ix2 n 0) = BitVec.ofNat 32 r.val) : out x rt w (ix2 n h) = Moe.prod x w r n h := by
  have hg (k : Fin 256) := gather_expert w (routes rt) n k h r (routes_apply rt n r hr)
  unfold Moe.prod
  pointwise [out]
  exact Finset.sum_congr rfl fun k _ => congrArg _ (hg k)

end Cert.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.KerValue
public import proofs.«01_k».proof.Proof.RefValue

@[expose] public section

noncomputable section

namespace Cert.Proof

open Idealize.ShloMosaic Idealize.ShloMosaic.TcCoe Idealize.SL.Sem

/-- The witnesses of what the programs and the precondition state of their shapes. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_routes_in_range_KernelIdeal.Facts := Cert.Moe.facts_kernel
local instance : Cert.Pre_routes_in_range_ReferenceIdeal.Facts := Cert.Moe.facts_reference

/-- The program and its idealization have one text: their body tables agree label by label. -/
theorem defs₀_eq : Cert.Kernel.defs₀ (F := Bits) = Cert.KernelIdeal.defs₀ (F := Bits) :=
  congrArg Defs.onTc (funext fun ℓ => funext fun a => by
    match ℓ, a with
    | 0, (t, s) => rfl
    | ⟨_ + 1, h⟩, _ => exact absurd h (Nat.not_lt.2 (Nat.le_add_left _ _)))

/-- And so do the tables of the programs whole. -/
theorem defs_eq : Cert.Kernel.defs (F := Bits) = Cert.KernelIdeal.defs (F := Bits) := congrArg (Pipeline.defs Cert.Kernel.pcfgs) defs₀_eq

/-- The kernel, on words of bits, from any memory: it terminates, keeps its arguments and ends with every semaphore at zero. -/
theorem frame_kernel : Cert.quiescent_Kernel := by
  intro m ρ _
  rw [defs_eq]
  exact Cert.Dispatch.frame_main (F := Bits) m ρ

/-- The same over the extended reals. -/
theorem frame_kernel_ideal : Cert.quiescent_KernelIdeal := fun m ρ _ => Cert.Dispatch.frame_main (F := Ideal) m ρ

/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With every route one of the eight experts, every device ends with the reference's result: at each token, the product
    with the weights of the expert its route names. -/
theorem value : Cert.algebraic_KernelIdeal_ReferenceIdeal_pre_routes_in_range_KernelIdeal := by
  intro m ρ m' ρ' hpre hag
  let x := m' (((0 : Dev Cert.ReferenceIdeal.nD).tc : Thread Cert.ReferenceIdeal.nD Cert.ReferenceIdeal.τ).loc Cert.ReferenceIdeal.main_arg0)
  let rt := m' (((0 : Dev Cert.ReferenceIdeal.nD).tc : Thread Cert.ReferenceIdeal.nD Cert.ReferenceIdeal.τ).loc Cert.ReferenceIdeal.main_arg2)
  let w := m' (((0 : Dev Cert.ReferenceIdeal.nD).tc : Thread Cert.ReferenceIdeal.nD Cert.ReferenceIdeal.τ).loc Cert.ReferenceIdeal.main_arg3)
  have hr (n : Fin 512) : ∃ r : Fin 8, rt (ix2 n 0) = BitVec.ofNat 32 r.val := by
    obtain ⟨r, h⟩ := Cert.Moe.route_of_pre _ _ _ _ (hpre 0) n
    rw [(hag 0).2.2.1] at h
    exact ⟨r, h⟩
  have hv : Cert.Dispatch.outC m = Cert.RefValue.out x rt w := by
    funext i
    obtain ⟨n, h, rfl⟩ : ∃ (n h : Fin 512), i = ix2 n h := ⟨i 0, i 1, eq_ix2 i⟩
    obtain ⟨r, hn⟩ := hr n
    exact (Cert.KerValue.outC_apply m x rt w (fun c => (hag c).1) (fun c => (hag c).2.2.1) (fun c => (hag c).2.2.2) n h r hn).trans
      (Cert.RefValue.out_apply x rt w n h r hn).symm
  refine ⟨Cert.RefValue.out x rt w, ?_, ?_⟩
  · exact (θ_run Cert.KernelIdeal.defs _ _).mono
      (fun _ h c => ⟨(Cert.Dispatch.result_of_QC m h.1 c).trans hv, Cert.Dispatch.args_of_QC m h.1 c⟩) (Cert.Dispatch.run_main (F := Ideal) m ρ)
  · exact (θ_run Cert.ReferenceIdeal.defs _ _).mono (fun _ h => ⟨(h 0).1, (h 0).2⟩) (Cert.ReferenceIdeal.Value.run (F := Ideal) m' ρ')

/-- Everything the statement claims. -/
theorem claim : Cert.Claim :=
  ⟨Cert.Kernel.Gen.facts, Cert.KernelIdeal.Gen.facts, Cert.ReferenceIdeal.Gen.facts, Cert.Moe.facts_kernel, Cert.Moe.facts_reference,
    frame_kernel, frame_kernel_ideal, fun m ρ _ => frame_kernel_ideal m ρ trivial, frame_reference, fun m ρ _ => frame_reference m ρ trivial,
    trivial, value⟩

end Cert.Proof

end
